-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1548x64x64 : Shape := ⟨4, ![8, 1548, 64, 64]⟩
abbrev S144x86x4096 : Shape := ⟨3, ![144, 86, 4096]⟩
abbrev S104x4096x86 : Shape := ⟨3, ![104, 4096, 86]⟩
abbrev S1x86x4096 : Shape := ⟨3, ![1, 86, 4096]⟩
abbrev S1x4096x86 : Shape := ⟨3, ![1, 4096, 86]⟩
abbrev S86x4096 : Shape := ⟨2, ![86, 4096]⟩
abbrev S4096x86 : Shape := ⟨2, ![4096, 86]⟩
abbrev S40x16x22016 : Shape := ⟨3, ![40, 16, 22016]⟩
abbrev S86x256 : Shape := ⟨2, ![86, 256]⟩
abbrev S22016 : Shape := ⟨1, ![22016]⟩
abbrev S_ : Shape := ⟨0, ![]⟩
abbrev S16 : Shape := ⟨1, ![16]⟩
abbrev S1x86x256 : Shape := ⟨3, ![1, 86, 256]⟩
abbrev S1x1x22016 : Shape := ⟨3, ![1, 1, 22016]⟩
abbrev S1x16 : Shape := ⟨2, ![1, 16]⟩
abbrev S104x352256 : Shape := ⟨2, ![104, 352256]⟩
abbrev S40x352256 : Shape := ⟨2, ![40, 352256]⟩
abbrev S144x352256 : Shape := ⟨2, ![144, 352256]⟩
abbrev S8x73728x86 : Shape := ⟨3, ![8, 73728, 86]⟩

abbrev nBuf : Table → Nat
  | .hbm => 8
  | .local .tc .vmem => 4
  | .local .scVector .vmem => 4
  | _ => 0

abbrev bufTy : (tb : Table) → Fin (nBuf tb) → BufTy
  | .hbm, ⟨0, _⟩ => ⟨S8x1548x64x64, .f32⟩
  | .hbm, ⟨1, _⟩ => ⟨S144x86x4096, .f32⟩
  | .hbm, ⟨2, _⟩ => ⟨S104x4096x86, .f32⟩
  | .hbm, ⟨3, _⟩ => ⟨S40x16x22016, .f32⟩
  | .hbm, ⟨4, _⟩ => ⟨S104x352256, .f32⟩
  | .hbm, ⟨5, _⟩ => ⟨S40x352256, .f32⟩
  | .hbm, ⟨6, _⟩ => ⟨S144x352256, .f32⟩
  | .hbm, ⟨7, _⟩ => ⟨S8x73728x86, .f32⟩
  | .local .tc .vmem, ⟨0, _⟩ => ⟨S1x86x4096, .f32⟩
  | .local .tc .vmem, ⟨1, _⟩ => ⟨S1x86x4096, .f32⟩
  | .local .tc .vmem, ⟨2, _⟩ => ⟨S1x4096x86, .f32⟩
  | .local .tc .vmem, ⟨3, _⟩ => ⟨S1x4096x86, .f32⟩
  | .local .scVector .vmem, ⟨0, _⟩ => ⟨S86x256, .f32⟩
  | .local .scVector .vmem, ⟨1, _⟩ => ⟨S86x256, .f32⟩
  | .local .scVector .vmem, ⟨2, _⟩ => ⟨S22016, .f32⟩
  | .local .scVector .vmem, ⟨3, _⟩ => ⟨S22016, .f32⟩
  | _, _ => ⟨S8x1548x64x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v0_scv : Ref sig .scVector := ⟨.hbm, 1, rfl⟩
abbrev main_v2_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![104], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x86x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x86 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) (c0_i32 : BitVec 32) : Fin 3 → Nat :=
  let c104_i32 : BitVec 32 := 104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.addi v1 c0_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c16_i32 : BitVec 32 := 16#32
  let c0_i32_2 : BitVec 32 := 0#32
  let v11 : BitVec 1 := Scalar.cmpi .sgt c16_i32 c0_i32_2
  let v12 : BitVec 32 := Scalar.extui v11
  let c0_i32_3 : BitVec 32 := 0#32
  let v13 : BitVec 1 := Scalar.cmpi .slt c16_i32 c0_i32_3
  let v14 : BitVec 32 := Scalar.extui v13
  let v15 : BitVec 32 := Scalar.subi v12 v14
  let v16 : BitVec 1 := Scalar.cmpi .ne v10 v15
  let v17 : BitVec 32 := Scalar.remsi v4 c16_i32
  let c0_i32_4 : BitVec 32 := 0#32
  let v18 : BitVec 1 := Scalar.cmpi .ne v17 c0_i32_4
  let v19 : BitVec 1 := Scalar.andi v16 v18
  let v5 : BitVec 32 := Scalar.divsi v4 c16_i32
  let c1_i32 : BitVec 32 := 1#32
  let v20 : BitVec 32 := Scalar.subi v5 c1_i32
  let v21 : BitVec 32 := Scalar.select v19 v20 v5
  let v22 : BitVec 32 := Scalar.addi c104_i32 v21
  let c0_i32_11 : BitVec 32 := 0#32
  let c16_i32_5 : BitVec 32 := 16#32
  let c0_i32_6 : BitVec 32 := 0#32
  let v23 : BitVec 1 := Scalar.cmpi .eq c16_i32_5 c0_i32_6
  let c1_i32_7 : BitVec 32 := 1#32
  let v24 : BitVec 32 := Scalar.select v23 c1_i32_7 c16_i32_5
  let v25 : BitVec 32 := Scalar.remsi v4 v24
  let c0_i32_9 : BitVec 32 := 0#32
  let v27 : BitVec 1 := Scalar.cmpi .slt v25 c0_i32_9
  let c0_i32_10 : BitVec 32 := 0#32
  let v28 : BitVec 1 := Scalar.cmpi .slt v24 c0_i32_10
  let v29 : BitVec 1 := Scalar.xori v27 v28
  let c0_i32_8 : BitVec 32 := 0#32
  let v26 : BitVec 1 := Scalar.cmpi .ne v25 c0_i32_8
  let v30 : BitVec 1 := Scalar.andi v29 v26
  let v31 : BitVec 32 := Scalar.addi v25 v24
  let v32 : BitVec 32 := Scalar.select v30 v31 v25
  let c256_i32 : BitVec 32 := 256#32
  let v33 : BitVec 32 := Scalar.muli v32 c256_i32
  ![v22.toNat, 0, v33.toNat]
@[reducible] def k1_t1_loop : Scf.Loop 32 :=
  let c0_i32_30 : BitVec 32 := 0#32
  let c10_i32 : BitVec 32 := 10#32
  let v72 : BitVec 32 := Scalar.addi c0_i32_30 c10_i32
  let c1_i32_31 : BitVec 32 := 1#32
  ⟨c0_i32_30, v72, c1_i32_31⟩
def k1_off2 (i : grid1.Coords) (k1_t1 : Fin k1_t1_loop.trips) (c0_i32_65 : BitVec 32) : Fin 3 → Nat :=
  let c104_i32_118 : BitVec 32 := 104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let v139 : BitVec 32 := Scalar.addi v138 c0_i32_65
  let c32_i32_110 : BitVec 32 := 32#32
  let v219 : BitVec 32 := Scalar.muli v139 c32_i32_110
  let v220 : BitVec 32 := Scalar.addi v1 v219
  let c0_i32_112 : BitVec 32 := 0#32
  let v222 : BitVec 1 := Scalar.cmpi .sgt v220 c0_i32_112
  let v223 : BitVec 32 := Scalar.extui v222
  let c0_i32_113 : BitVec 32 := 0#32
  let v224 : BitVec 1 := Scalar.cmpi .slt v220 c0_i32_113
  let v225 : BitVec 32 := Scalar.extui v224
  let v226 : BitVec 32 := Scalar.subi v223 v225
  let c16_i32_111 : BitVec 32 := 16#32
  let c0_i32_114 : BitVec 32 := 0#32
  let v227 : BitVec 1 := Scalar.cmpi .sgt c16_i32_111 c0_i32_114
  let v228 : BitVec 32 := Scalar.extui v227
  let c0_i32_115 : BitVec 32 := 0#32
  let v229 : BitVec 1 := Scalar.cmpi .slt c16_i32_111 c0_i32_115
  let v230 : BitVec 32 := Scalar.extui v229
  let v231 : BitVec 32 := Scalar.subi v228 v230
  let v232 : BitVec 1 := Scalar.cmpi .ne v226 v231
  let v233 : BitVec 32 := Scalar.remsi v220 c16_i32_111
  let c0_i32_116 : BitVec 32 := 0#32
  let v234 : BitVec 1 := Scalar.cmpi .ne v233 c0_i32_116
  let v235 : BitVec 1 := Scalar.andi v232 v234
  let v221 : BitVec 32 := Scalar.divsi v220 c16_i32_111
  let c1_i32_117 : BitVec 32 := 1#32
  let v236 : BitVec 32 := Scalar.subi v221 c1_i32_117
  let v237 : BitVec 32 := Scalar.select v235 v236 v221
  let v238 : BitVec 32 := Scalar.addi c104_i32_118 v237
  let c0_i32_126 : BitVec 32 := 0#32
  let c16_i32_119 : BitVec 32 := 16#32
  let c0_i32_120 : BitVec 32 := 0#32
  let v239 : BitVec 1 := Scalar.cmpi .eq c16_i32_119 c0_i32_120
  let c1_i32_121 : BitVec 32 := 1#32
  let v240 : BitVec 32 := Scalar.select v239 c1_i32_121 c16_i32_119
  let v241 : BitVec 32 := Scalar.remsi v220 v240
  let c0_i32_123 : BitVec 32 := 0#32
  let v243 : BitVec 1 := Scalar.cmpi .slt v241 c0_i32_123
  let c0_i32_124 : BitVec 32 := 0#32
  let v244 : BitVec 1 := Scalar.cmpi .slt v240 c0_i32_124
  let v245 : BitVec 1 := Scalar.xori v243 v244
  let c0_i32_122 : BitVec 32 := 0#32
  let v242 : BitVec 1 := Scalar.cmpi .ne v241 c0_i32_122
  let v246 : BitVec 1 := Scalar.andi v245 v242
  let v247 : BitVec 32 := Scalar.addi v241 v240
  let v248 : BitVec 32 := Scalar.select v246 v247 v241
  let c256_i32_125 : BitVec 32 := 256#32
  let v249 : BitVec 32 := Scalar.muli v248 c256_i32_125
  ![v238.toNat, 0, v249.toNat]
def k1_cond1 (k1_t1 : Fin k1_t1_loop.trips) : BitVec 1 :=
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c2_i32_128 : BitVec 32 := 2#32
  let v254 : BitVec 1 := Scalar.cmpi .sge v138 c2_i32_128
  let v255 : BitVec 32 := Scalar.extui v254
  let c0_i32_129 : BitVec 32 := 0#32
  let v256 : BitVec 1 := Scalar.cmpi .ne v255 c0_i32_129
  v256

def k1_off3 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c0_i32_65 : BitVec 32 := 0#32
  let v139 : BitVec 32 := Scalar.addi v138 c0_i32_65
  let c32_i32_250 : BitVec 32 := 32#32
  let v453 : BitVec 32 := Scalar.muli v139 c32_i32_250
  let v454 : BitVec 32 := Scalar.addi v1 v453
  let c0_i32_252 : BitVec 32 := 0#32
  let v456 : BitVec 1 := Scalar.cmpi .sgt v454 c0_i32_252
  let v457 : BitVec 32 := Scalar.extui v456
  let c0_i32_253 : BitVec 32 := 0#32
  let v458 : BitVec 1 := Scalar.cmpi .slt v454 c0_i32_253
  let v459 : BitVec 32 := Scalar.extui v458
  let v460 : BitVec 32 := Scalar.subi v457 v459
  let c16_i32_251 : BitVec 32 := 16#32
  let c0_i32_254 : BitVec 32 := 0#32
  let v461 : BitVec 1 := Scalar.cmpi .sgt c16_i32_251 c0_i32_254
  let v462 : BitVec 32 := Scalar.extui v461
  let c0_i32_255 : BitVec 32 := 0#32
  let v463 : BitVec 1 := Scalar.cmpi .slt c16_i32_251 c0_i32_255
  let v464 : BitVec 32 := Scalar.extui v463
  let v465 : BitVec 32 := Scalar.subi v462 v464
  let v466 : BitVec 1 := Scalar.cmpi .ne v460 v465
  let v467 : BitVec 32 := Scalar.remsi v454 c16_i32_251
  let c0_i32_256 : BitVec 32 := 0#32
  let v468 : BitVec 1 := Scalar.cmpi .ne v467 c0_i32_256
  let v469 : BitVec 1 := Scalar.andi v466 v468
  let v455 : BitVec 32 := Scalar.divsi v454 c16_i32_251
  let c1_i32_257 : BitVec 32 := 1#32
  let v470 : BitVec 32 := Scalar.subi v455 c1_i32_257
  let v471 : BitVec 32 := Scalar.select v469 v470 v455
  let c16_i32_258 : BitVec 32 := 16#32
  let c0_i32_259 : BitVec 32 := 0#32
  let v472 : BitVec 1 := Scalar.cmpi .eq c16_i32_258 c0_i32_259
  let c1_i32_260 : BitVec 32 := 1#32
  let v473 : BitVec 32 := Scalar.select v472 c1_i32_260 c16_i32_258
  let v474 : BitVec 32 := Scalar.remsi v454 v473
  let c0_i32_262 : BitVec 32 := 0#32
  let v476 : BitVec 1 := Scalar.cmpi .slt v474 c0_i32_262
  let c0_i32_263 : BitVec 32 := 0#32
  let v477 : BitVec 1 := Scalar.cmpi .slt v473 c0_i32_263
  let v478 : BitVec 1 := Scalar.xori v476 v477
  let c0_i32_261 : BitVec 32 := 0#32
  let v475 : BitVec 1 := Scalar.cmpi .ne v474 c0_i32_261
  let v479 : BitVec 1 := Scalar.andi v478 v475
  let v480 : BitVec 32 := Scalar.addi v474 v473
  let v481 : BitVec 32 := Scalar.select v479 v480 v474
  let c0_i32_264 : BitVec 32 := 0#32
  ![v471.toNat, v481.toNat, 0]
@[reducible] def k1_t2_loop : Scf.Loop 32 :=
  let c0_i32_130 : BitVec 32 := 0#32
  let c16_i32_131 : BitVec 32 := 16#32
  let v257 : BitVec 32 := Scalar.addi c0_i32_130 c16_i32_131
  let c1_i32_132 : BitVec 32 := 1#32
  ⟨c0_i32_130, v257, c1_i32_132⟩
def k1_off4 (k1_t2 : Fin k1_t2_loop.trips) : Fin 2 → Nat :=
  let c0_i32_267 : BitVec 32 := 0#32
  let v494 : Index := Scalar.indexCast c0_i32_267
  let c0_i32_251 : BitVec 32 := 0#32
  let c0_i32_130 : BitVec 32 := 0#32
  let c1_i32_132 : BitVec 32 := 1#32
  let arg13 : BitVec 32 := Scf.iv c0_i32_130 c1_i32_132 k1_t2
  let c1_i32_250 : BitVec 32 := 1#32
  let v453 : BitVec 32 := Scalar.muli arg13 c1_i32_250
  let v454 : BitVec 32 := Scalar.addi c0_i32_251 v453
  let c16_i32_266 : BitVec 32 := 16#32
  let v493 : BitVec 32 := Scalar.muli v454 c16_i32_266
  let v495 : Index := Scalar.indexCast v493
  ![0, v495.toNat]

def k1_chk1 (v512 : IVec S16 32) : Prop :=
  (∀ a x, ((![v512] : Fin 1 → IVec S16 32) a x).toNat < S22016.size a)
theorem k1_idx1_inb : ∀ (v512 : IVec S16 32) (k1_hw1 : k1_chk1 v512), ∀ a x, ((![v512] : Fin 1 → IVec S16 32) a x).toNat < S22016.size a := fun v512 k1_hw1 => k1_hw1
def k1_off5 (k1_t2 : Fin k1_t2_loop.trips) : Fin 2 → Nat :=
  let c1_i32_276 : BitVec 32 := 1#32
  let v514 : Index := Scalar.indexCast c1_i32_276
  let c0_i32_251 : BitVec 32 := 0#32
  let c0_i32_130 : BitVec 32 := 0#32
  let c1_i32_132 : BitVec 32 := 1#32
  let arg13 : BitVec 32 := Scf.iv c0_i32_130 c1_i32_132 k1_t2
  let c1_i32_250 : BitVec 32 := 1#32
  let v453 : BitVec 32 := Scalar.muli arg13 c1_i32_250
  let v454 : BitVec 32 := Scalar.addi c0_i32_251 v453
  let c16_i32_275 : BitVec 32 := 16#32
  let v513 : BitVec 32 := Scalar.muli v454 c16_i32_275
  let v515 : Index := Scalar.indexCast v513
  ![1, v515.toNat]

def k1_chk2 (v531 : IVec S16 32) : Prop :=
  (∀ a x, ((![v531] : Fin 1 → IVec S16 32) a x).toNat < S22016.size a)
theorem k1_idx2_inb : ∀ (v531 : IVec S16 32) (k1_hw2 : k1_chk2 v531), ∀ a x, ((![v531] : Fin 1 → IVec S16 32) a x).toNat < S22016.size a := fun v531 k1_hw2 => k1_hw2
def k1_off6 (k1_t2 : Fin k1_t2_loop.trips) : Fin 2 → Nat :=
  let c2_i32_285 : BitVec 32 := 2#32
  let v533 : Index := Scalar.indexCast c2_i32_285
  let c0_i32_251 : BitVec 32 := 0#32
  let c0_i32_130 : BitVec 32 := 0#32
  let c1_i32_132 : BitVec 32 := 1#32
  let arg13 : BitVec 32 := Scf.iv c0_i32_130 c1_i32_132 k1_t2
  let c1_i32_250 : BitVec 32 := 1#32
  let v453 : BitVec 32 := Scalar.muli arg13 c1_i32_250
  let v454 : BitVec 32 := Scalar.addi c0_i32_251 v453
  let c16_i32_284 : BitVec 32 := 16#32
  let v532 : BitVec 32 := Scalar.muli v454 c16_i32_284
  let v534 : Index := Scalar.indexCast v532
  ![2, v534.toNat]

def k1_chk3 (v540 : IVec S16 32) : Prop :=
  (∀ a x, ((![v540] : Fin 1 → IVec S16 32) a x).toNat < S22016.size a)
theorem k1_idx3_inb : ∀ (v540 : IVec S16 32) (k1_hw3 : k1_chk3 v540), ∀ a x, ((![v540] : Fin 1 → IVec S16 32) a x).toNat < S22016.size a := fun v540 k1_hw3 => k1_hw3
def k1_off7 (k1_t2 : Fin k1_t2_loop.trips) : Fin 2 → Nat :=
  let c3_i32 : BitVec 32 := 3#32
  let v542 : Index := Scalar.indexCast c3_i32
  let c0_i32_251 : BitVec 32 := 0#32
  let c0_i32_130 : BitVec 32 := 0#32
  let c1_i32_132 : BitVec 32 := 1#32
  let arg13 : BitVec 32 := Scf.iv c0_i32_130 c1_i32_132 k1_t2
  let c1_i32_250 : BitVec 32 := 1#32
  let v453 : BitVec 32 := Scalar.muli arg13 c1_i32_250
  let v454 : BitVec 32 := Scalar.addi c0_i32_251 v453
  let c16_i32_287 : BitVec 32 := 16#32
  let v541 : BitVec 32 := Scalar.muli v454 c16_i32_287
  let v543 : Index := Scalar.indexCast v541
  ![3, v543.toNat]

def k1_chk4 (v549 : IVec S16 32) : Prop :=
  (∀ a x, ((![v549] : Fin 1 → IVec S16 32) a x).toNat < S22016.size a)
theorem k1_idx4_inb : ∀ (v549 : IVec S16 32) (k1_hw4 : k1_chk4 v549), ∀ a x, ((![v549] : Fin 1 → IVec S16 32) a x).toNat < S22016.size a := fun v549 k1_hw4 => k1_hw4
def k1_off8 (k1_t2 : Fin k1_t2_loop.trips) : Fin 2 → Nat :=
  let c4_i32 : BitVec 32 := 4#32
  let v551 : Index := Scalar.indexCast c4_i32
  let c0_i32_251 : BitVec 32 := 0#32
  let c0_i32_130 : BitVec 32 := 0#32
  let c1_i32_132 : BitVec 32 := 1#32
  let arg13 : BitVec 32 := Scf.iv c0_i32_130 c1_i32_132 k1_t2
  let c1_i32_250 : BitVec 32 := 1#32
  let v453 : BitVec 32 := Scalar.muli arg13 c1_i32_250
  let v454 : BitVec 32 := Scalar.addi c0_i32_251 v453
  let c16_i32_289 : BitVec 32 := 16#32
  let v550 : BitVec 32 := Scalar.muli v454 c16_i32_289
  let v552 : Index := Scalar.indexCast v550
  ![4, v552.toNat]

def k1_chk5 (v557 : IVec S16 32) : Prop :=
  (∀ a x, ((![v557] : Fin 1 → IVec S16 32) a x).toNat < S22016.size a)
theorem k1_idx5_inb : ∀ (v557 : IVec S16 32) (k1_hw5 : k1_chk5 v557), ∀ a x, ((![v557] : Fin 1 → IVec S16 32) a x).toNat < S22016.size a := fun v557 k1_hw5 => k1_hw5
@[reducible] def k1_t3_loop : Scf.Loop 32 :=
  let c0_i32_134 : BitVec 32 := 0#32
  let c1296_i32 : BitVec 32 := 1296#32
  let v258 : BitVec 32 := Scalar.addi c0_i32_134 c1296_i32
  let c1_i32_135 : BitVec 32 := 1#32
  ⟨c0_i32_134, v258, c1_i32_135⟩
def k1_off9 (k1_t3 : Fin k1_t3_loop.trips) : Fin 2 → Nat :=
  let c80_i32 : BitVec 32 := 80#32
  let c0_i32_134 : BitVec 32 := 0#32
  let c1_i32_135 : BitVec 32 := 1#32
  let arg13 : BitVec 32 := Scf.iv c0_i32_134 c1_i32_135 k1_t3
  let c1_i32_250 : BitVec 32 := 1#32
  let v453 : BitVec 32 := Scalar.muli arg13 c1_i32_250
  let v454 : BitVec 32 := Scalar.addi c80_i32 v453
  let c16_i32_251 : BitVec 32 := 16#32
  let v455 : BitVec 32 := Scalar.muli v454 c16_i32_251
  let c0_i32_253 : BitVec 32 := 0#32
  let v457 : BitVec 1 := Scalar.cmpi .sgt v455 c0_i32_253
  let v458 : BitVec 32 := Scalar.extui v457
  let c0_i32_254 : BitVec 32 := 0#32
  let v459 : BitVec 1 := Scalar.cmpi .slt v455 c0_i32_254
  let v460 : BitVec 32 := Scalar.extui v459
  let v461 : BitVec 32 := Scalar.subi v458 v460
  let c256_i32_252 : BitVec 32 := 256#32
  let c0_i32_255 : BitVec 32 := 0#32
  let v462 : BitVec 1 := Scalar.cmpi .sgt c256_i32_252 c0_i32_255
  let v463 : BitVec 32 := Scalar.extui v462
  let c0_i32_256 : BitVec 32 := 0#32
  let v464 : BitVec 1 := Scalar.cmpi .slt c256_i32_252 c0_i32_256
  let v465 : BitVec 32 := Scalar.extui v464
  let v466 : BitVec 32 := Scalar.subi v463 v465
  let v467 : BitVec 1 := Scalar.cmpi .ne v461 v466
  let v468 : BitVec 32 := Scalar.remsi v455 c256_i32_252
  let c0_i32_257 : BitVec 32 := 0#32
  let v469 : BitVec 1 := Scalar.cmpi .ne v468 c0_i32_257
  let v470 : BitVec 1 := Scalar.andi v467 v469
  let v456 : BitVec 32 := Scalar.divsi v455 c256_i32_252
  let c1_i32_258 : BitVec 32 := 1#32
  let v471 : BitVec 32 := Scalar.subi v456 c1_i32_258
  let v472 : BitVec 32 := Scalar.select v470 v471 v456
  let v483 : Index := Scalar.indexCast v472
  let c256_i32_259 : BitVec 32 := 256#32
  let c0_i32_260 : BitVec 32 := 0#32
  let v473 : BitVec 1 := Scalar.cmpi .eq c256_i32_259 c0_i32_260
  let c1_i32_261 : BitVec 32 := 1#32
  let v474 : BitVec 32 := Scalar.select v473 c1_i32_261 c256_i32_259
  let v475 : BitVec 32 := Scalar.remsi v455 v474
  let c0_i32_263 : BitVec 32 := 0#32
  let v477 : BitVec 1 := Scalar.cmpi .slt v475 c0_i32_263
  let c0_i32_264 : BitVec 32 := 0#32
  let v478 : BitVec 1 := Scalar.cmpi .slt v474 c0_i32_264
  let v479 : BitVec 1 := Scalar.xori v477 v478
  let c0_i32_262 : BitVec 32 := 0#32
  let v476 : BitVec 1 := Scalar.cmpi .ne v475 c0_i32_262
  let v480 : BitVec 1 := Scalar.andi v479 v476
  let v481 : BitVec 32 := Scalar.addi v475 v474
  let v482 : BitVec 32 := Scalar.select v480 v481 v475
  let v484 : Index := Scalar.indexCast v482
  ![v483.toNat, v484.toNat]

def k1_chk6 (v498 : IVec S16 32) : Prop :=
  (∀ a x, ((![v498] : Fin 1 → IVec S16 32) a x).toNat < S22016.size a)
theorem k1_idx6_inb : ∀ (v498 : IVec S16 32) (k1_hw6 : k1_chk6 v498), ∀ a x, ((![v498] : Fin 1 → IVec S16 32) a x).toNat < S22016.size a := fun v498 k1_hw6 => k1_hw6
def k1_off10 (i : grid1.Coords) (k1_t1 : Fin k1_t1_loop.trips) (c0_i32_65 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let v139 : BitVec 32 := Scalar.addi v138 c0_i32_65
  let c32_i32_137 : BitVec 32 := 32#32
  let v259 : BitVec 32 := Scalar.muli v139 c32_i32_137
  let v260 : BitVec 32 := Scalar.addi v1 v259
  let c0_i32_139 : BitVec 32 := 0#32
  let v262 : BitVec 1 := Scalar.cmpi .sgt v260 c0_i32_139
  let v263 : BitVec 32 := Scalar.extui v262
  let c0_i32_140 : BitVec 32 := 0#32
  let v264 : BitVec 1 := Scalar.cmpi .slt v260 c0_i32_140
  let v265 : BitVec 32 := Scalar.extui v264
  let v266 : BitVec 32 := Scalar.subi v263 v265
  let c16_i32_138 : BitVec 32 := 16#32
  let c0_i32_141 : BitVec 32 := 0#32
  let v267 : BitVec 1 := Scalar.cmpi .sgt c16_i32_138 c0_i32_141
  let v268 : BitVec 32 := Scalar.extui v267
  let c0_i32_142 : BitVec 32 := 0#32
  let v269 : BitVec 1 := Scalar.cmpi .slt c16_i32_138 c0_i32_142
  let v270 : BitVec 32 := Scalar.extui v269
  let v271 : BitVec 32 := Scalar.subi v268 v270
  let v272 : BitVec 1 := Scalar.cmpi .ne v266 v271
  let v273 : BitVec 32 := Scalar.remsi v260 c16_i32_138
  let c0_i32_143 : BitVec 32 := 0#32
  let v274 : BitVec 1 := Scalar.cmpi .ne v273 c0_i32_143
  let v275 : BitVec 1 := Scalar.andi v272 v274
  let v261 : BitVec 32 := Scalar.divsi v260 c16_i32_138
  let c1_i32_144 : BitVec 32 := 1#32
  let v276 : BitVec 32 := Scalar.subi v261 c1_i32_144
  let v277 : BitVec 32 := Scalar.select v275 v276 v261
  let c16_i32_145 : BitVec 32 := 16#32
  let c0_i32_146 : BitVec 32 := 0#32
  let v278 : BitVec 1 := Scalar.cmpi .eq c16_i32_145 c0_i32_146
  let c1_i32_147 : BitVec 32 := 1#32
  let v279 : BitVec 32 := Scalar.select v278 c1_i32_147 c16_i32_145
  let v280 : BitVec 32 := Scalar.remsi v260 v279
  let c0_i32_149 : BitVec 32 := 0#32
  let v282 : BitVec 1 := Scalar.cmpi .slt v280 c0_i32_149
  let c0_i32_150 : BitVec 32 := 0#32
  let v283 : BitVec 1 := Scalar.cmpi .slt v279 c0_i32_150
  let v284 : BitVec 1 := Scalar.xori v282 v283
  let c0_i32_148 : BitVec 32 := 0#32
  let v281 : BitVec 1 := Scalar.cmpi .ne v280 c0_i32_148
  let v285 : BitVec 1 := Scalar.andi v284 v281
  let v286 : BitVec 32 := Scalar.addi v280 v279
  let v287 : BitVec 32 := Scalar.select v285 v286 v280
  let c0_i32_151 : BitVec 32 := 0#32
  ![v277.toNat, v287.toNat, 0]
def k1_cond2 (k1_t1 : Fin k1_t1_loop.trips) : BitVec 1 :=
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c0_i32_65 : BitVec 32 := 0#32
  let v139 : BitVec 32 := Scalar.addi v138 c0_i32_65
  let c2_i32_153 : BitVec 32 := 2#32
  let v292 : BitVec 32 := Scalar.addi v139 c2_i32_153
  let c20_i32 : BitVec 32 := 20#32
  let v293 : BitVec 1 := Scalar.cmpi .slt v292 c20_i32
  let v294 : BitVec 32 := Scalar.extui v293
  let c0_i32_154 : BitVec 32 := 0#32
  let v295 : BitVec 1 := Scalar.cmpi .ne v294 c0_i32_154
  v295

def k1_off11 (i : grid1.Coords) (k1_t1 : Fin k1_t1_loop.trips) : Fin 3 → Nat :=
  let c104_i32_259 : BitVec 32 := 104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c0_i32_65 : BitVec 32 := 0#32
  let v139 : BitVec 32 := Scalar.addi v138 c0_i32_65
  let c2_i32_250 : BitVec 32 := 2#32
  let v453 : BitVec 32 := Scalar.addi v139 c2_i32_250
  let c32_i32_251 : BitVec 32 := 32#32
  let v454 : BitVec 32 := Scalar.muli v453 c32_i32_251
  let v455 : BitVec 32 := Scalar.addi v1 v454
  let c0_i32_253 : BitVec 32 := 0#32
  let v457 : BitVec 1 := Scalar.cmpi .sgt v455 c0_i32_253
  let v458 : BitVec 32 := Scalar.extui v457
  let c0_i32_254 : BitVec 32 := 0#32
  let v459 : BitVec 1 := Scalar.cmpi .slt v455 c0_i32_254
  let v460 : BitVec 32 := Scalar.extui v459
  let v461 : BitVec 32 := Scalar.subi v458 v460
  let c16_i32_252 : BitVec 32 := 16#32
  let c0_i32_255 : BitVec 32 := 0#32
  let v462 : BitVec 1 := Scalar.cmpi .sgt c16_i32_252 c0_i32_255
  let v463 : BitVec 32 := Scalar.extui v462
  let c0_i32_256 : BitVec 32 := 0#32
  let v464 : BitVec 1 := Scalar.cmpi .slt c16_i32_252 c0_i32_256
  let v465 : BitVec 32 := Scalar.extui v464
  let v466 : BitVec 32 := Scalar.subi v463 v465
  let v467 : BitVec 1 := Scalar.cmpi .ne v461 v466
  let v468 : BitVec 32 := Scalar.remsi v455 c16_i32_252
  let c0_i32_257 : BitVec 32 := 0#32
  let v469 : BitVec 1 := Scalar.cmpi .ne v468 c0_i32_257
  let v470 : BitVec 1 := Scalar.andi v467 v469
  let v456 : BitVec 32 := Scalar.divsi v455 c16_i32_252
  let c1_i32_258 : BitVec 32 := 1#32
  let v471 : BitVec 32 := Scalar.subi v456 c1_i32_258
  let v472 : BitVec 32 := Scalar.select v470 v471 v456
  let v473 : BitVec 32 := Scalar.addi c104_i32_259 v472
  let c0_i32_267 : BitVec 32 := 0#32
  let c16_i32_260 : BitVec 32 := 16#32
  let c0_i32_261 : BitVec 32 := 0#32
  let v474 : BitVec 1 := Scalar.cmpi .eq c16_i32_260 c0_i32_261
  let c1_i32_262 : BitVec 32 := 1#32
  let v475 : BitVec 32 := Scalar.select v474 c1_i32_262 c16_i32_260
  let v476 : BitVec 32 := Scalar.remsi v455 v475
  let c0_i32_264 : BitVec 32 := 0#32
  let v478 : BitVec 1 := Scalar.cmpi .slt v476 c0_i32_264
  let c0_i32_265 : BitVec 32 := 0#32
  let v479 : BitVec 1 := Scalar.cmpi .slt v475 c0_i32_265
  let v480 : BitVec 1 := Scalar.xori v478 v479
  let c0_i32_263 : BitVec 32 := 0#32
  let v477 : BitVec 1 := Scalar.cmpi .ne v476 c0_i32_263
  let v481 : BitVec 1 := Scalar.andi v480 v477
  let v482 : BitVec 32 := Scalar.addi v476 v475
  let v483 : BitVec 32 := Scalar.select v481 v482 v476
  let c256_i32_266 : BitVec 32 := 256#32
  let v484 : BitVec 32 := Scalar.muli v483 c256_i32_266
  ![v473.toNat, 0, v484.toNat]
def k1_cond3 (k1_t1 : Fin k1_t1_loop.trips) : BitVec 1 :=
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c2_i32_221 : BitVec 32 := 2#32
  let v411 : BitVec 1 := Scalar.cmpi .sge v138 c2_i32_221
  let v412 : BitVec 32 := Scalar.extui v411
  let c0_i32_222 : BitVec 32 := 0#32
  let v413 : BitVec 1 := Scalar.cmpi .ne v412 c0_i32_222
  v413

def k1_off12 (i : grid1.Coords) (k1_t1 : Fin k1_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c1_i32_155 : BitVec 32 := 1#32
  let v296 : BitVec 32 := Scalar.addi v138 c1_i32_155
  let c32_i32_250 : BitVec 32 := 32#32
  let v453 : BitVec 32 := Scalar.muli v296 c32_i32_250
  let v454 : BitVec 32 := Scalar.addi v1 v453
  let c0_i32_252 : BitVec 32 := 0#32
  let v456 : BitVec 1 := Scalar.cmpi .sgt v454 c0_i32_252
  let v457 : BitVec 32 := Scalar.extui v456
  let c0_i32_253 : BitVec 32 := 0#32
  let v458 : BitVec 1 := Scalar.cmpi .slt v454 c0_i32_253
  let v459 : BitVec 32 := Scalar.extui v458
  let v460 : BitVec 32 := Scalar.subi v457 v459
  let c16_i32_251 : BitVec 32 := 16#32
  let c0_i32_254 : BitVec 32 := 0#32
  let v461 : BitVec 1 := Scalar.cmpi .sgt c16_i32_251 c0_i32_254
  let v462 : BitVec 32 := Scalar.extui v461
  let c0_i32_255 : BitVec 32 := 0#32
  let v463 : BitVec 1 := Scalar.cmpi .slt c16_i32_251 c0_i32_255
  let v464 : BitVec 32 := Scalar.extui v463
  let v465 : BitVec 32 := Scalar.subi v462 v464
  let v466 : BitVec 1 := Scalar.cmpi .ne v460 v465
  let v467 : BitVec 32 := Scalar.remsi v454 c16_i32_251
  let c0_i32_256 : BitVec 32 := 0#32
  let v468 : BitVec 1 := Scalar.cmpi .ne v467 c0_i32_256
  let v469 : BitVec 1 := Scalar.andi v466 v468
  let v455 : BitVec 32 := Scalar.divsi v454 c16_i32_251
  let c1_i32_257 : BitVec 32 := 1#32
  let v470 : BitVec 32 := Scalar.subi v455 c1_i32_257
  let v471 : BitVec 32 := Scalar.select v469 v470 v455
  let c16_i32_258 : BitVec 32 := 16#32
  let c0_i32_259 : BitVec 32 := 0#32
  let v472 : BitVec 1 := Scalar.cmpi .eq c16_i32_258 c0_i32_259
  let c1_i32_260 : BitVec 32 := 1#32
  let v473 : BitVec 32 := Scalar.select v472 c1_i32_260 c16_i32_258
  let v474 : BitVec 32 := Scalar.remsi v454 v473
  let c0_i32_262 : BitVec 32 := 0#32
  let v476 : BitVec 1 := Scalar.cmpi .slt v474 c0_i32_262
  let c0_i32_263 : BitVec 32 := 0#32
  let v477 : BitVec 1 := Scalar.cmpi .slt v473 c0_i32_263
  let v478 : BitVec 1 := Scalar.xori v476 v477
  let c0_i32_261 : BitVec 32 := 0#32
  let v475 : BitVec 1 := Scalar.cmpi .ne v474 c0_i32_261
  let v479 : BitVec 1 := Scalar.andi v478 v475
  let v480 : BitVec 32 := Scalar.addi v474 v473
  let v481 : BitVec 32 := Scalar.select v479 v480 v474
  let c0_i32_264 : BitVec 32 := 0#32
  ![v471.toNat, v481.toNat, 0]
@[reducible] def k1_t4_loop : Scf.Loop 32 :=
  let c0_i32_223 : BitVec 32 := 0#32
  let c16_i32_224 : BitVec 32 := 16#32
  let v414 : BitVec 32 := Scalar.addi c0_i32_223 c16_i32_224
  let c1_i32_225 : BitVec 32 := 1#32
  ⟨c0_i32_223, v414, c1_i32_225⟩
def k1_off13 (k1_t4 : Fin k1_t4_loop.trips) : Fin 2 → Nat :=
  let c0_i32_267 : BitVec 32 := 0#32
  let v494 : Index := Scalar.indexCast c0_i32_267
  let c0_i32_251 : BitVec 32 := 0#32
  let c0_i32_223 : BitVec 32 := 0#32
  let c1_i32_225 : BitVec 32 := 1#32
  let arg13 : BitVec 32 := Scf.iv c0_i32_223 c1_i32_225 k1_t4
  let c1_i32_250 : BitVec 32 := 1#32
  let v453 : BitVec 32 := Scalar.muli arg13 c1_i32_250
  let v454 : BitVec 32 := Scalar.addi c0_i32_251 v453
  let c16_i32_266 : BitVec 32 := 16#32
  let v493 : BitVec 32 := Scalar.muli v454 c16_i32_266
  let v495 : Index := Scalar.indexCast v493
  ![0, v495.toNat]

def k1_chk7 (v512 : IVec S16 32) : Prop :=
  (∀ a x, ((![v512] : Fin 1 → IVec S16 32) a x).toNat < S22016.size a)
theorem k1_idx7_inb : ∀ (v512 : IVec S16 32) (k1_hw7 : k1_chk7 v512), ∀ a x, ((![v512] : Fin 1 → IVec S16 32) a x).toNat < S22016.size a := fun v512 k1_hw7 => k1_hw7
def k1_off14 (k1_t4 : Fin k1_t4_loop.trips) : Fin 2 → Nat :=
  let c1_i32_276 : BitVec 32 := 1#32
  let v514 : Index := Scalar.indexCast c1_i32_276
  let c0_i32_251 : BitVec 32 := 0#32
  let c0_i32_223 : BitVec 32 := 0#32
  let c1_i32_225 : BitVec 32 := 1#32
  let arg13 : BitVec 32 := Scf.iv c0_i32_223 c1_i32_225 k1_t4
  let c1_i32_250 : BitVec 32 := 1#32
  let v453 : BitVec 32 := Scalar.muli arg13 c1_i32_250
  let v454 : BitVec 32 := Scalar.addi c0_i32_251 v453
  let c16_i32_275 : BitVec 32 := 16#32
  let v513 : BitVec 32 := Scalar.muli v454 c16_i32_275
  let v515 : Index := Scalar.indexCast v513
  ![1, v515.toNat]

def k1_chk8 (v531 : IVec S16 32) : Prop :=
  (∀ a x, ((![v531] : Fin 1 → IVec S16 32) a x).toNat < S22016.size a)
theorem k1_idx8_inb : ∀ (v531 : IVec S16 32) (k1_hw8 : k1_chk8 v531), ∀ a x, ((![v531] : Fin 1 → IVec S16 32) a x).toNat < S22016.size a := fun v531 k1_hw8 => k1_hw8
def k1_off15 (k1_t4 : Fin k1_t4_loop.trips) : Fin 2 → Nat :=
  let c2_i32_285 : BitVec 32 := 2#32
  let v533 : Index := Scalar.indexCast c2_i32_285
  let c0_i32_251 : BitVec 32 := 0#32
  let c0_i32_223 : BitVec 32 := 0#32
  let c1_i32_225 : BitVec 32 := 1#32
  let arg13 : BitVec 32 := Scf.iv c0_i32_223 c1_i32_225 k1_t4
  let c1_i32_250 : BitVec 32 := 1#32
  let v453 : BitVec 32 := Scalar.muli arg13 c1_i32_250
  let v454 : BitVec 32 := Scalar.addi c0_i32_251 v453
  let c16_i32_284 : BitVec 32 := 16#32
  let v532 : BitVec 32 := Scalar.muli v454 c16_i32_284
  let v534 : Index := Scalar.indexCast v532
  ![2, v534.toNat]

def k1_chk9 (v540 : IVec S16 32) : Prop :=
  (∀ a x, ((![v540] : Fin 1 → IVec S16 32) a x).toNat < S22016.size a)
theorem k1_idx9_inb : ∀ (v540 : IVec S16 32) (k1_hw9 : k1_chk9 v540), ∀ a x, ((![v540] : Fin 1 → IVec S16 32) a x).toNat < S22016.size a := fun v540 k1_hw9 => k1_hw9
def k1_off16 (k1_t4 : Fin k1_t4_loop.trips) : Fin 2 → Nat :=
  let c3_i32 : BitVec 32 := 3#32
  let v542 : Index := Scalar.indexCast c3_i32
  let c0_i32_251 : BitVec 32 := 0#32
  let c0_i32_223 : BitVec 32 := 0#32
  let c1_i32_225 : BitVec 32 := 1#32
  let arg13 : BitVec 32 := Scf.iv c0_i32_223 c1_i32_225 k1_t4
  let c1_i32_250 : BitVec 32 := 1#32
  let v453 : BitVec 32 := Scalar.muli arg13 c1_i32_250
  let v454 : BitVec 32 := Scalar.addi c0_i32_251 v453
  let c16_i32_287 : BitVec 32 := 16#32
  let v541 : BitVec 32 := Scalar.muli v454 c16_i32_287
  let v543 : Index := Scalar.indexCast v541
  ![3, v543.toNat]

def k1_chk10 (v549 : IVec S16 32) : Prop :=
  (∀ a x, ((![v549] : Fin 1 → IVec S16 32) a x).toNat < S22016.size a)
theorem k1_idx10_inb : ∀ (v549 : IVec S16 32) (k1_hw10 : k1_chk10 v549), ∀ a x, ((![v549] : Fin 1 → IVec S16 32) a x).toNat < S22016.size a := fun v549 k1_hw10 => k1_hw10
def k1_off17 (k1_t4 : Fin k1_t4_loop.trips) : Fin 2 → Nat :=
  let c4_i32 : BitVec 32 := 4#32
  let v551 : Index := Scalar.indexCast c4_i32
  let c0_i32_251 : BitVec 32 := 0#32
  let c0_i32_223 : BitVec 32 := 0#32
  let c1_i32_225 : BitVec 32 := 1#32
  let arg13 : BitVec 32 := Scf.iv c0_i32_223 c1_i32_225 k1_t4
  let c1_i32_250 : BitVec 32 := 1#32
  let v453 : BitVec 32 := Scalar.muli arg13 c1_i32_250
  let v454 : BitVec 32 := Scalar.addi c0_i32_251 v453
  let c16_i32_289 : BitVec 32 := 16#32
  let v550 : BitVec 32 := Scalar.muli v454 c16_i32_289
  let v552 : Index := Scalar.indexCast v550
  ![4, v552.toNat]

def k1_chk11 (v557 : IVec S16 32) : Prop :=
  (∀ a x, ((![v557] : Fin 1 → IVec S16 32) a x).toNat < S22016.size a)
theorem k1_idx11_inb : ∀ (v557 : IVec S16 32) (k1_hw11 : k1_chk11 v557), ∀ a x, ((![v557] : Fin 1 → IVec S16 32) a x).toNat < S22016.size a := fun v557 k1_hw11 => k1_hw11
@[reducible] def k1_t5_loop : Scf.Loop 32 :=
  let c0_i32_227 : BitVec 32 := 0#32
  let c1296_i32_228 : BitVec 32 := 1296#32
  let v415 : BitVec 32 := Scalar.addi c0_i32_227 c1296_i32_228
  let c1_i32_229 : BitVec 32 := 1#32
  ⟨c0_i32_227, v415, c1_i32_229⟩
def k1_off18 (k1_t5 : Fin k1_t5_loop.trips) : Fin 2 → Nat :=
  let c80_i32 : BitVec 32 := 80#32
  let c0_i32_227 : BitVec 32 := 0#32
  let c1_i32_229 : BitVec 32 := 1#32
  let arg13 : BitVec 32 := Scf.iv c0_i32_227 c1_i32_229 k1_t5
  let c1_i32_250 : BitVec 32 := 1#32
  let v453 : BitVec 32 := Scalar.muli arg13 c1_i32_250
  let v454 : BitVec 32 := Scalar.addi c80_i32 v453
  let c16_i32_251 : BitVec 32 := 16#32
  let v455 : BitVec 32 := Scalar.muli v454 c16_i32_251
  let c0_i32_253 : BitVec 32 := 0#32
  let v457 : BitVec 1 := Scalar.cmpi .sgt v455 c0_i32_253
  let v458 : BitVec 32 := Scalar.extui v457
  let c0_i32_254 : BitVec 32 := 0#32
  let v459 : BitVec 1 := Scalar.cmpi .slt v455 c0_i32_254
  let v460 : BitVec 32 := Scalar.extui v459
  let v461 : BitVec 32 := Scalar.subi v458 v460
  let c256_i32_252 : BitVec 32 := 256#32
  let c0_i32_255 : BitVec 32 := 0#32
  let v462 : BitVec 1 := Scalar.cmpi .sgt c256_i32_252 c0_i32_255
  let v463 : BitVec 32 := Scalar.extui v462
  let c0_i32_256 : BitVec 32 := 0#32
  let v464 : BitVec 1 := Scalar.cmpi .slt c256_i32_252 c0_i32_256
  let v465 : BitVec 32 := Scalar.extui v464
  let v466 : BitVec 32 := Scalar.subi v463 v465
  let v467 : BitVec 1 := Scalar.cmpi .ne v461 v466
  let v468 : BitVec 32 := Scalar.remsi v455 c256_i32_252
  let c0_i32_257 : BitVec 32 := 0#32
  let v469 : BitVec 1 := Scalar.cmpi .ne v468 c0_i32_257
  let v470 : BitVec 1 := Scalar.andi v467 v469
  let v456 : BitVec 32 := Scalar.divsi v455 c256_i32_252
  let c1_i32_258 : BitVec 32 := 1#32
  let v471 : BitVec 32 := Scalar.subi v456 c1_i32_258
  let v472 : BitVec 32 := Scalar.select v470 v471 v456
  let v483 : Index := Scalar.indexCast v472
  let c256_i32_259 : BitVec 32 := 256#32
  let c0_i32_260 : BitVec 32 := 0#32
  let v473 : BitVec 1 := Scalar.cmpi .eq c256_i32_259 c0_i32_260
  let c1_i32_261 : BitVec 32 := 1#32
  let v474 : BitVec 32 := Scalar.select v473 c1_i32_261 c256_i32_259
  let v475 : BitVec 32 := Scalar.remsi v455 v474
  let c0_i32_263 : BitVec 32 := 0#32
  let v477 : BitVec 1 := Scalar.cmpi .slt v475 c0_i32_263
  let c0_i32_264 : BitVec 32 := 0#32
  let v478 : BitVec 1 := Scalar.cmpi .slt v474 c0_i32_264
  let v479 : BitVec 1 := Scalar.xori v477 v478
  let c0_i32_262 : BitVec 32 := 0#32
  let v476 : BitVec 1 := Scalar.cmpi .ne v475 c0_i32_262
  let v480 : BitVec 1 := Scalar.andi v479 v476
  let v481 : BitVec 32 := Scalar.addi v475 v474
  let v482 : BitVec 32 := Scalar.select v480 v481 v475
  let v484 : Index := Scalar.indexCast v482
  ![v483.toNat, v484.toNat]

def k1_chk12 (v498 : IVec S16 32) : Prop :=
  (∀ a x, ((![v498] : Fin 1 → IVec S16 32) a x).toNat < S22016.size a)
theorem k1_idx12_inb : ∀ (v498 : IVec S16 32) (k1_hw12 : k1_chk12 v498), ∀ a x, ((![v498] : Fin 1 → IVec S16 32) a x).toNat < S22016.size a := fun v498 k1_hw12 => k1_hw12
def k1_cond4 (k1_t1 : Fin k1_t1_loop.trips) : BitVec 1 :=
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c1_i32_155 : BitVec 32 := 1#32
  let v296 : BitVec 32 := Scalar.addi v138 c1_i32_155
  let c2_i32_247 : BitVec 32 := 2#32
  let v449 : BitVec 32 := Scalar.addi v296 c2_i32_247
  let c20_i32_248 : BitVec 32 := 20#32
  let v450 : BitVec 1 := Scalar.cmpi .slt v449 c20_i32_248
  let v451 : BitVec 32 := Scalar.extui v450
  let c0_i32_249 : BitVec 32 := 0#32
  let v452 : BitVec 1 := Scalar.cmpi .ne v451 c0_i32_249
  v452

def k1_off19 (i : grid1.Coords) (k1_t1 : Fin k1_t1_loop.trips) : Fin 3 → Nat :=
  let c104_i32_259 : BitVec 32 := 104#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c0_i32_30 : BitVec 32 := 0#32
  let c1_i32_31 : BitVec 32 := 1#32
  let arg12 : BitVec 32 := Scf.iv c0_i32_30 c1_i32_31 k1_t1
  let c2_i32_63 : BitVec 32 := 2#32
  let v137 : BitVec 32 := Scalar.muli arg12 c2_i32_63
  let v138 : BitVec 32 := Scalar.addi c0_i32_64 v137
  let c1_i32_155 : BitVec 32 := 1#32
  let v296 : BitVec 32 := Scalar.addi v138 c1_i32_155
  let c2_i32_250 : BitVec 32 := 2#32
  let v453 : BitVec 32 := Scalar.addi v296 c2_i32_250
  let c32_i32_251 : BitVec 32 := 32#32
  let v454 : BitVec 32 := Scalar.muli v453 c32_i32_251
  let v455 : BitVec 32 := Scalar.addi v1 v454
  let c0_i32_253 : BitVec 32 := 0#32
  let v457 : BitVec 1 := Scalar.cmpi .sgt v455 c0_i32_253
  let v458 : BitVec 32 := Scalar.extui v457
  let c0_i32_254 : BitVec 32 := 0#32
  let v459 : BitVec 1 := Scalar.cmpi .slt v455 c0_i32_254
  let v460 : BitVec 32 := Scalar.extui v459
  let v461 : BitVec 32 := Scalar.subi v458 v460
  let c16_i32_252 : BitVec 32 := 16#32
  let c0_i32_255 : BitVec 32 := 0#32
  let v462 : BitVec 1 := Scalar.cmpi .sgt c16_i32_252 c0_i32_255
  let v463 : BitVec 32 := Scalar.extui v462
  let c0_i32_256 : BitVec 32 := 0#32
  let v464 : BitVec 1 := Scalar.cmpi .slt c16_i32_252 c0_i32_256
  let v465 : BitVec 32 := Scalar.extui v464
  let v466 : BitVec 32 := Scalar.subi v463 v465
  let v467 : BitVec 1 := Scalar.cmpi .ne v461 v466
  let v468 : BitVec 32 := Scalar.remsi v455 c16_i32_252
  let c0_i32_257 : BitVec 32 := 0#32
  let v469 : BitVec 1 := Scalar.cmpi .ne v468 c0_i32_257
  let v470 : BitVec 1 := Scalar.andi v467 v469
  let v456 : BitVec 32 := Scalar.divsi v455 c16_i32_252
  let c1_i32_258 : BitVec 32 := 1#32
  let v471 : BitVec 32 := Scalar.subi v456 c1_i32_258
  let v472 : BitVec 32 := Scalar.select v470 v471 v456
  let v473 : BitVec 32 := Scalar.addi c104_i32_259 v472
  let c0_i32_267 : BitVec 32 := 0#32
  let c16_i32_260 : BitVec 32 := 16#32
  let c0_i32_261 : BitVec 32 := 0#32
  let v474 : BitVec 1 := Scalar.cmpi .eq c16_i32_260 c0_i32_261
  let c1_i32_262 : BitVec 32 := 1#32
  let v475 : BitVec 32 := Scalar.select v474 c1_i32_262 c16_i32_260
  let v476 : BitVec 32 := Scalar.remsi v455 v475
  let c0_i32_264 : BitVec 32 := 0#32
  let v478 : BitVec 1 := Scalar.cmpi .slt v476 c0_i32_264
  let c0_i32_265 : BitVec 32 := 0#32
  let v479 : BitVec 1 := Scalar.cmpi .slt v475 c0_i32_265
  let v480 : BitVec 1 := Scalar.xori v478 v479
  let c0_i32_263 : BitVec 32 := 0#32
  let v477 : BitVec 1 := Scalar.cmpi .ne v476 c0_i32_263
  let v481 : BitVec 1 := Scalar.andi v480 v477
  let v482 : BitVec 32 := Scalar.addi v476 v475
  let v483 : BitVec 32 := Scalar.select v481 v482 v476
  let c256_i32_266 : BitVec 32 := 256#32
  let v484 : BitVec 32 := Scalar.muli v483 c256_i32_266
  ![v473.toNat, 0, v484.toNat]
def k1_off20 (i : grid1.Coords) (c576_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v73 : BitVec 32 := Scalar.addi v1 c576_i32
  let c0_i32_34 : BitVec 32 := 0#32
  let v75 : BitVec 1 := Scalar.cmpi .sgt v73 c0_i32_34
  let v76 : BitVec 32 := Scalar.extui v75
  let c0_i32_35 : BitVec 32 := 0#32
  let v77 : BitVec 1 := Scalar.cmpi .slt v73 c0_i32_35
  let v78 : BitVec 32 := Scalar.extui v77
  let v79 : BitVec 32 := Scalar.subi v76 v78
  let c16_i32_33 : BitVec 32 := 16#32
  let c0_i32_36 : BitVec 32 := 0#32
  let v80 : BitVec 1 := Scalar.cmpi .sgt c16_i32_33 c0_i32_36
  let v81 : BitVec 32 := Scalar.extui v80
  let c0_i32_37 : BitVec 32 := 0#32
  let v82 : BitVec 1 := Scalar.cmpi .slt c16_i32_33 c0_i32_37
  let v83 : BitVec 32 := Scalar.extui v82
  let v84 : BitVec 32 := Scalar.subi v81 v83
  let v85 : BitVec 1 := Scalar.cmpi .ne v79 v84
  let v86 : BitVec 32 := Scalar.remsi v73 c16_i32_33
  let c0_i32_38 : BitVec 32 := 0#32
  let v87 : BitVec 1 := Scalar.cmpi .ne v86 c0_i32_38
  let v88 : BitVec 1 := Scalar.andi v85 v87
  let v74 : BitVec 32 := Scalar.divsi v73 c16_i32_33
  let c1_i32_39 : BitVec 32 := 1#32
  let v89 : BitVec 32 := Scalar.subi v74 c1_i32_39
  let v90 : BitVec 32 := Scalar.select v88 v89 v74
  let c16_i32_40 : BitVec 32 := 16#32
  let c0_i32_41 : BitVec 32 := 0#32
  let v91 : BitVec 1 := Scalar.cmpi .eq c16_i32_40 c0_i32_41
  let c1_i32_42 : BitVec 32 := 1#32
  let v92 : BitVec 32 := Scalar.select v91 c1_i32_42 c16_i32_40
  let v93 : BitVec 32 := Scalar.remsi v73 v92
  let c0_i32_44 : BitVec 32 := 0#32
  let v95 : BitVec 1 := Scalar.cmpi .slt v93 c0_i32_44
  let c0_i32_45 : BitVec 32 := 0#32
  let v96 : BitVec 1 := Scalar.cmpi .slt v92 c0_i32_45
  let v97 : BitVec 1 := Scalar.xori v95 v96
  let c0_i32_43 : BitVec 32 := 0#32
  let v94 : BitVec 1 := Scalar.cmpi .ne v93 c0_i32_43
  let v98 : BitVec 1 := Scalar.andi v97 v94
  let v99 : BitVec 32 := Scalar.addi v93 v92
  let v100 : BitVec 32 := Scalar.select v98 v99 v93
  let c0_i32_46 : BitVec 32 := 0#32
  ![v90.toNat, v100.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1548x64x64 : Shape := ⟨4, ![8, 1548, 64, 64]⟩
abbrev S18x3 : Shape := ⟨2, ![18, 3]⟩
abbrev S8x18x86x64x64 : Shape := ⟨5, ![8, 18, 86, 64, 64]⟩
abbrev S8x18x64x64x86 : Shape := ⟨5, ![8, 18, 64, 64, 86]⟩
abbrev S8x18x64x64x1 : Shape := ⟨5, ![8, 18, 64, 64, 1]⟩
abbrev S8x18x64x64 : Shape := ⟨4, ![8, 18, 64, 64]⟩
abbrev S_ : Shape := ⟨0, ![]⟩
abbrev S8x18x64x64x80 : Shape := ⟨5, ![8, 18, 64, 64, 80]⟩
abbrev S64 : Shape := ⟨1, ![64]⟩
abbrev S1x64 : Shape := ⟨2, ![1, 64]⟩
abbrev S1x1x1x64 : Shape := ⟨4, ![1, 1, 1, 64]⟩
abbrev S64x1x1x64 : Shape := ⟨4, ![64, 1, 1, 64]⟩
abbrev S64x64 : Shape := ⟨2, ![64, 64]⟩
abbrev S1x1x64x64 : Shape := ⟨4, ![1, 1, 64, 64]⟩
abbrev S18x1 : Shape := ⟨2, ![18, 1]⟩
abbrev S18 : Shape := ⟨1, ![18]⟩
abbrev S1x18x1x1 : Shape := ⟨4, ![1, 18, 1, 1]⟩
abbrev S8x18x64x64x4 : Shape := ⟨5, ![8, 18, 64, 64, 4]⟩
abbrev S8x73728x4 : Shape := ⟨3, ![8, 73728, 4]⟩
abbrev S8x73728x1 : Shape := ⟨3, ![8, 73728, 1]⟩
abbrev S8x73728x80 : Shape := ⟨3, ![8, 73728, 80]⟩
abbrev S8x73728x86 : Shape := ⟨3, ![8, 73728, 86]⟩

abbrev nBuf : Space → Nat
  | .hbm => 108
  | .vmem => 0
  | .smem => 0
  | _ => 0

abbrev bufTy : (tb : Table) → Fin (tcTables nBuf tb) → BufTy
  | .hbm, ⟨0, _⟩ => ⟨S8x1548x64x64, .f32⟩
  | .hbm, ⟨1, _⟩ => ⟨S18x3, .f32⟩
  | .hbm, ⟨2, _⟩ => ⟨S8x18x86x64x64, .f32⟩
  | .hbm, ⟨3, _⟩ => ⟨S8x18x64x64x86, .f32⟩
  | .hbm, ⟨4, _⟩ => ⟨S8x18x64x64x1, .f32⟩
  | .hbm, ⟨5, _⟩ => ⟨S8x18x64x64, .f32⟩
  | .hbm, ⟨6, _⟩ => ⟨S8x18x64x64, .f32⟩
  | .hbm, ⟨7, _⟩ => ⟨S8x18x64x64, .f32⟩
  | .hbm, ⟨8, _⟩ => ⟨S_, .f32⟩
  | .hbm, ⟨9, _⟩ => ⟨S8x18x64x64, .f32⟩
  | .hbm, ⟨10, _⟩ => ⟨S8x18x64x64, .f32⟩
  | .hbm, ⟨11, _⟩ => ⟨S_, .f32⟩
  | .hbm, ⟨12, _⟩ => ⟨S8x18x64x64, .f32⟩
  | .hbm, ⟨13, _⟩ => ⟨S8x18x64x64, .f32⟩
  | .hbm, ⟨14, _⟩ => ⟨S_, .f32⟩
  | .hbm, ⟨15, _⟩ => ⟨S8x18x64x64, .f32⟩
  | .hbm, ⟨16, _⟩ => ⟨S8x18x64x64, .f32⟩
  | .hbm, ⟨17, _⟩ => ⟨S_, .f32⟩
  | .hbm, ⟨18, _⟩ => ⟨S8x18x64x64, .f32⟩
  | .hbm, ⟨19, _⟩ => ⟨S8x18x64x64, .f32⟩
  | .hbm, ⟨20, _⟩ => ⟨S8x18x64x64x1, .f32⟩
  | .hbm, ⟨21, _⟩ => ⟨S8x18x64x64, .f32⟩
  | .hbm, ⟨22, _⟩ => ⟨S8x18x64x64, .f32⟩
  | .hbm, ⟨23, _⟩ => ⟨S8x18x64x64, .f32⟩
  | .hbm, ⟨24, _⟩ => ⟨S_, .f32⟩
  | .hbm, ⟨25, _⟩ => ⟨S8x18x64x64, .f32⟩
  | .hbm, ⟨26, _⟩ => ⟨S8x18x64x64, .f32⟩
  | .hbm, ⟨27, _⟩ => ⟨S_, .f32⟩
  | .hbm, ⟨28, _⟩ => ⟨S8x18x64x64, .f32⟩
  | .hbm, ⟨29, _⟩ => ⟨S8x18x64x64, .f32⟩
  | .hbm, ⟨30, _⟩ => ⟨S_, .f32⟩
  | .hbm, ⟨31, _⟩ => ⟨S8x18x64x64, .f32⟩
  | .hbm, ⟨32, _⟩ => ⟨S8x18x64x64, .f32⟩
  | .hbm, ⟨33, _⟩ => ⟨S_, .f32⟩
  | .hbm, ⟨34, _⟩ => ⟨S8x18x64x64, .f32⟩
  | .hbm, ⟨35, _⟩ => ⟨S8x18x64x64, .f32⟩
  | .hbm, ⟨36, _⟩ => ⟨S8x18x64x64x1, .f32⟩
  | .hbm, ⟨37, _⟩ => ⟨S8x18x64x64, .f32⟩
  | .hbm, ⟨38, _⟩ => ⟨S8x18x64x64x1, .f32⟩
  | .hbm, ⟨39, _⟩ => ⟨S8x18x64x64, .f32⟩
  | .hbm, ⟨40, _⟩ => ⟨S8x18x64x64x1, .f32⟩
  | .hbm, ⟨41, _⟩ => ⟨S8x18x64x64, .f32⟩
  | .hbm, ⟨42, _⟩ => ⟨S8x18x64x64x1, .f32⟩
  | .hbm, ⟨43, _⟩ => ⟨S8x18x64x64, .f32⟩
  | .hbm, ⟨44, _⟩ => ⟨S8x18x64x64, .f32⟩
  | .hbm, ⟨45, _⟩ => ⟨S8x18x64x64, .f32⟩
  | .hbm, ⟨46, _⟩ => ⟨S_, .f32⟩
  | .hbm, ⟨47, _⟩ => ⟨S8x18x64x64, .f32⟩
  | .hbm, ⟨48, _⟩ => ⟨S8x18x64x64, .f32⟩
  | .hbm, ⟨49, _⟩ => ⟨S_, .f32⟩
  | .hbm, ⟨50, _⟩ => ⟨S8x18x64x64, .f32⟩
  | .hbm, ⟨51, _⟩ => ⟨S8x18x64x64, .f32⟩
  | .hbm, ⟨52, _⟩ => ⟨S8x18x64x64x80, .f32⟩
  | .hbm, ⟨53, _⟩ => ⟨S8x18x64x64x80, .f32⟩
  | .hbm, ⟨54, _⟩ => ⟨S8x18x64x64x80, .f32⟩
  | .hbm, ⟨55, _⟩ => ⟨S_, .f32⟩
  | .hbm, ⟨56, _⟩ => ⟨S8x18x64x64x80, .f32⟩
  | .hbm, ⟨57, _⟩ => ⟨S8x18x64x64x80, .f32⟩
  | .hbm, ⟨58, _⟩ => ⟨S_, .f32⟩
  | .hbm, ⟨59, _⟩ => ⟨S8x18x64x64x80, .f32⟩
  | .hbm, ⟨60, _⟩ => ⟨S8x18x64x64x80, .f32⟩
  | .hbm, ⟨61, _⟩ => ⟨S64, .f32⟩
  | .hbm, ⟨62, _⟩ => ⟨S1x64, .f32⟩
  | .hbm, ⟨63, _⟩ => ⟨S1x1x1x64, .f32⟩
  | .hbm, ⟨64, _⟩ => ⟨S64x1x1x64, .f32⟩
  | .hbm, ⟨65, _⟩ => ⟨S64x64, .f32⟩
  | .hbm, ⟨66, _⟩ => ⟨S1x1x64x64, .f32⟩
  | .hbm, ⟨67, _⟩ => ⟨S64, .f32⟩
  | .hbm, ⟨68, _⟩ => ⟨S1x64, .f32⟩
  | .hbm, ⟨69, _⟩ => ⟨S1x1x1x64, .f32⟩
  | .hbm, ⟨70, _⟩ => ⟨S64x1x1x64, .f32⟩
  | .hbm, ⟨71, _⟩ => ⟨S64x64, .f32⟩
  | .hbm, ⟨72, _⟩ => ⟨S64x64, .f32⟩
  | .hbm, ⟨73, _⟩ => ⟨S1x1x64x64, .f32⟩
  | .hbm, ⟨74, _⟩ => ⟨S18x1, .f32⟩
  | .hbm, ⟨75, _⟩ => ⟨S18, .f32⟩
  | .hbm, ⟨76, _⟩ => ⟨S1x18x1x1, .f32⟩
  | .hbm, ⟨77, _⟩ => ⟨S18x1, .f32⟩
  | .hbm, ⟨78, _⟩ => ⟨S18, .f32⟩
  | .hbm, ⟨79, _⟩ => ⟨S1x18x1x1, .f32⟩
  | .hbm, ⟨80, _⟩ => ⟨S18x1, .f32⟩
  | .hbm, ⟨81, _⟩ => ⟨S18, .f32⟩
  | .hbm, ⟨82, _⟩ => ⟨S1x18x1x1, .f32⟩
  | .hbm, ⟨83, _⟩ => ⟨S8x18x64x64, .f32⟩
  | .hbm, ⟨84, _⟩ => ⟨S8x18x64x64, .f32⟩
  | .hbm, ⟨85, _⟩ => ⟨S8x18x64x64, .f32⟩
  | .hbm, ⟨86, _⟩ => ⟨S8x18x64x64, .f32⟩
  | .hbm, ⟨87, _⟩ => ⟨S8x18x64x64, .f32⟩
  | .hbm, ⟨88, _⟩ => ⟨S8x18x64x64, .f32⟩
  | .hbm, ⟨89, _⟩ => ⟨S8x18x64x64, .f32⟩
  | .hbm, ⟨90, _⟩ => ⟨S8x18x64x64, .f32⟩
  | .hbm, ⟨91, _⟩ => ⟨S8x18x64x64, .f32⟩
  | .hbm, ⟨92, _⟩ => ⟨S8x18x64x64, .f32⟩
  | .hbm, ⟨93, _⟩ => ⟨S8x18x64x64, .f32⟩
  | .hbm, ⟨94, _⟩ => ⟨S8x18x64x64, .f32⟩
  | .hbm, ⟨95, _⟩ => ⟨S8x18x64x64x1, .f32⟩
  | .hbm, ⟨96, _⟩ => ⟨S8x18x64x64x1, .f32⟩
  | .hbm, ⟨97, _⟩ => ⟨S8x18x64x64x1, .f32⟩
  | .hbm, ⟨98, _⟩ => ⟨S8x18x64x64x1, .f32⟩
  | .hbm, ⟨99, _⟩ => ⟨S8x18x64x64x4, .f32⟩
  | .hbm, ⟨100, _⟩ => ⟨S8x73728x4, .f32⟩
  | .hbm, ⟨101, _⟩ => ⟨S_, .f32⟩
  | .hbm, ⟨102, _⟩ => ⟨S8x73728x4, .f32⟩
  | .hbm, ⟨103, _⟩ => ⟨S8x73728x4, .f32⟩
  | .hbm, ⟨104, _⟩ => ⟨S8x73728x1, .f32⟩
  | .hbm, ⟨105, _⟩ => ⟨S8x73728x1, .f32⟩
  | .hbm, ⟨106, _⟩ => ⟨S8x73728x80, .f32⟩
  | .hbm, ⟨107, _⟩ => ⟨S8x73728x86, .f32⟩
  | _, _ => ⟨S8x1548x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_10 : Ref sig .tc := ⟨.hbm, 55, rfl⟩
abbrev main_v43 : Ref sig .tc := ⟨.hbm, 56, rfl⟩
abbrev main_v44 : Ref sig .tc := ⟨.hbm, 57, rfl⟩
abbrev main_cst_11 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_cst_12 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩

abbrev nD : Nat := 1
abbrev τ : Topo := Topo.v7x

variable {F : FTy → Type} [FloatOps F]
-- ==== Proof.Words.lean ====
/-
  Whole-number words.  Both halves of the kernel divide block numbers with the rounding of the host language: a quotient
  rounded down and a remainder of the divisor's sign, each spelt with a truncating operation and a correction.  On words
  that are small and not negative the corrections never apply, and the two are the quotient and the remainder of the
  numbers.
-/
module

public import Idealize.ShloMosaic.PureOps
public import Idealize.ShloMosaic.Lib.WordArith

@[expose] public section

namespace Cert.Proof.Words

open Idealize.ShloMosaic

/-- The remainder with the divisor's sign, as it is spelt. -/
def fmodW (u : ArithUnit) (a b : BitVec 32) : BitVec 32 :=
  let b' := Scalar.select (IntOp.cmpi .eq b 0#32) 1#32 b
  Scalar.select (IntOp.andi (IntOp.xori (IntOp.cmpi .slt (IntOp.remsi u a b') 0#32) (IntOp.cmpi .slt b' 0#32)) (IntOp.cmpi .ne (IntOp.remsi u a b') 0#32))
    (IntOp.addi (IntOp.remsi u a b') b') (IntOp.remsi u a b')

/-- The quotient rounded down, as it is spelt. -/
def fdivW (u : ArithUnit) (a b : BitVec 32) : BitVec 32 :=
  Scalar.select
    (IntOp.andi
      (IntOp.cmpi .ne
        (IntOp.subi ((IntOp.cmpi .sgt a 0#32).setWidth 32) ((IntOp.cmpi .slt a 0#32).setWidth 32))
        (IntOp.subi ((IntOp.cmpi .sgt b 0#32).setWidth 32) ((IntOp.cmpi .slt b 0#32).setWidth 32)))
      (IntOp.cmpi .ne (IntOp.remsi u a b) 0#32))
    (IntOp.subi (IntOp.divsi u a b) 1#32) (IntOp.divsi u a b)

theorem toNat_small {a : ℕ} (ha : a < 2 ^ 31) : (BitVec.ofNat 32 a).toNat = a := by
  rw [BitVec.toNat_ofNat]; exact Nat.mod_eq_of_lt (by omega)

theorem msb_small {a : ℕ} (ha : a < 2 ^ 31) : (BitVec.ofNat 32 a).msb = false := by
  rw [BitVec.msb_eq_decide, toNat_small ha]; simpa using ha

theorem no_corner {a b : ℕ} (ha : a < 2 ^ 31) (hb0 : 0 < b) (hb : b < 2 ^ 31) :
    ¬ IntOp.SDivCorner (BitVec.ofNat 32 a) (BitVec.ofNat 32 b) := by
  rintro (h | ⟨_, h⟩)
  · have := congrArg BitVec.toNat h
    rw [toNat_small hb] at this; simp at this; omega
  · have := congrArg BitVec.msb h
    rw [msb_small hb] at this; exact absurd this (by decide)

theorem divsi_small (u : ArithUnit) {a b : ℕ} (ha : a < 2 ^ 31) (hb0 : 0 < b) (hb : b < 2 ^ 31) :
    IntOp.divsi u (BitVec.ofNat 32 a) (BitVec.ofNat 32 b) = BitVec.ofNat 32 (a / b) := by
  unfold IntOp.divsi
  rw [if_neg (no_corner ha hb0 hb), BitVec.sdiv_eq, msb_small ha, msb_small hb]
  apply BitVec.eq_of_toNat_eq
  have : a / b < 2 ^ 31 := lt_of_le_of_lt (Nat.div_le_self _ _) ha
  simp only [BitVec.udiv_eq, BitVec.toNat_udiv, toNat_small ha, toNat_small hb, toNat_small this]

theorem remsi_small (u : ArithUnit) {a b : ℕ} (ha : a < 2 ^ 31) (hb0 : 0 < b) (hb : b < 2 ^ 31) :
    IntOp.remsi u (BitVec.ofNat 32 a) (BitVec.ofNat 32 b) = BitVec.ofNat 32 (a % b) := by
  unfold IntOp.remsi
  rw [if_neg (no_corner ha hb0 hb), BitVec.srem_eq, msb_small ha, msb_small hb]
  apply BitVec.eq_of_toNat_eq
  have : a % b < 2 ^ 31 := lt_of_le_of_lt (Nat.mod_le _ _) ha
  simp only [BitVec.umod_eq, BitVec.toNat_umod, toNat_small ha, toNat_small hb, toNat_small this]

theorem slt_zero_small {a : ℕ} (ha : a < 2 ^ 31) : IntOp.cmpi .slt (BitVec.ofNat 32 a) 0#32 = 0#1 := by
  have : (BitVec.ofNat 32 a).slt 0#32 = false := by
    rw [BitVec.slt_zero_eq_msb, msb_small ha]
  simp [IntOp.cmpi, this]

theorem ne_zero_small {a : ℕ} (ha : a < 2 ^ 31) : IntOp.cmpi .ne (BitVec.ofNat 32 a) 0#32 = BitVec.ofBool (decide (a ≠ 0)) := by
  unfold IntOp.cmpi
  congr 1
  by_cases h : a = 0
  · subst h; rfl
  · have : (BitVec.ofNat 32 a) ≠ 0#32 := fun e => h (by have := congrArg BitVec.toNat e; rw [toNat_small ha] at this; simpa using this)
    simp [h, this]

theorem eq_small {a b : ℕ} (ha : a < 2 ^ 31) (hb : b < 2 ^ 31) :
    IntOp.cmpi .eq (BitVec.ofNat 32 a) (BitVec.ofNat 32 b) = BitVec.ofBool (decide (a = b)) := by
  unfold IntOp.cmpi
  congr 1
  by_cases h : a = b
  · subst h; simp
  · have : (BitVec.ofNat 32 a) ≠ BitVec.ofNat 32 b := fun e => h (by
      have := congrArg BitVec.toNat e; rwa [toNat_small ha, toNat_small hb] at this)
    simp [h, this]

theorem sgt_zero_small {a : ℕ} (ha : a < 2 ^ 31) : IntOp.cmpi .sgt (BitVec.ofNat 32 a) 0#32 = BitVec.ofBool (decide (0 < a)) := by
  unfold IntOp.cmpi
  congr 1
  show BitVec.slt 0#32 (BitVec.ofNat 32 a) = _
  rw [BitVec.slt_eq_decide, BitVec.toInt_eq_toNat_of_msb (msb_small ha), toNat_small ha]
  simp

theorem select_zero {α : Type} (x y : α) : Scalar.select 0#1 x y = y := rfl

theorem fmodW_small (u : ArithUnit) {a b : ℕ} (ha : a < 2 ^ 31) (hb0 : 0 < b) (hb : b < 2 ^ 31) :
    fmodW u (BitVec.ofNat 32 a) (BitVec.ofNat 32 b) = BitVec.ofNat 32 (a % b) := by
  have hm : a % b < 2 ^ 31 := lt_of_le_of_lt (Nat.mod_le _ _) ha
  have hb' : Scalar.select (IntOp.cmpi .eq (BitVec.ofNat 32 b) 0#32) 1#32 (BitVec.ofNat 32 b) = BitVec.ofNat 32 b := by
    have := eq_small hb (show 0 < 2 ^ 31 by decide)
    rw [show (0#32) = BitVec.ofNat 32 0 from rfl, this, decide_eq_false (by omega)]; rfl
  unfold fmodW
  simp only [hb', remsi_small u ha hb0 hb, slt_zero_small hm, slt_zero_small hb]
  have : ∀ x : BitVec 1, IntOp.andi (IntOp.xori 0#1 0#1) x = 0#1 := by decide
  rw [this, select_zero]

theorem fdivW_small (u : ArithUnit) {a b : ℕ} (ha : a < 2 ^ 31) (hb0 : 0 < b) (hb : b < 2 ^ 31) :
    fdivW u (BitVec.ofNat 32 a) (BitVec.ofNat 32 b) = BitVec.ofNat 32 (a / b) := by
  unfold fdivW
  simp only [remsi_small u ha hb0 hb, divsi_small u ha hb0 hb, slt_zero_small ha, slt_zero_small hb, sgt_zero_small ha, sgt_zero_small hb,
    ne_zero_small (lt_of_le_of_lt (Nat.mod_le a b) ha)]
  rw [decide_eq_true hb0]
  by_cases h0 : a = 0
  · subst h0
    rw [Nat.zero_mod]; rfl
  · rw [decide_eq_true (show 0 < a by omega)]
    have : ∀ x : BitVec 1, IntOp.andi (IntOp.cmpi .ne
        (IntOp.subi ((BitVec.ofBool true).setWidth 32) (BitVec.setWidth 32 0#1)) (IntOp.subi ((BitVec.ofBool true).setWidth 32) (BitVec.setWidth 32 0#1))) x = 0#1 := by decide
    rw [this, select_zero]

theorem addi_small {a b : ℕ} : IntOp.addi (BitVec.ofNat 32 a) (BitVec.ofNat 32 b) = BitVec.ofNat 32 (a + b) := by
  unfold IntOp.addi; rw [BitVec.ofNat_add]
theorem muli_small {a b : ℕ} : IntOp.muli (BitVec.ofNat 32 a) (BitVec.ofNat 32 b) = BitVec.ofNat 32 (a * b) := by
  unfold IntOp.muli; rw [BitVec.ofNat_mul]

end Cert.Proof.Words

end
-- ==== Proof.Decode.lean ====
/-
  What the SparseCore's tiles compute, number by number, and how a tile lays it out.

  A tile decodes a chunk of 256 grid cells of one slab.  It reads the chunk as 86 rows of 256 (channel by grid cell) and
  builds the transposed chunk, 256 rows of 86, in a flat scratch of 22016 numbers: cell `gl`'s channel `c` is at
  `86 * gl + c`.  It goes sixteen cells at a time and scatters each vector of sixteen results.
-/
module

public import proofs.«01_k».proof.Proof.Words
public import proofs.«01_k».proof.Proof.Gen.KernelIdeal
public import proofs.«01_k».proof.Proof.Gen.KernelIdeal.Skeleton

@[expose] public section

noncomputable section

namespace Cert.Proof.Decode

open Cert.KernelIdeal Cert.KernelIdeal.Gen
open Idealize.ShloMosaic Cert.Proof.Words

variable {F : FTy → Type} [FloatOps F]

/-! ## One number -/

/-- The logistic function as the kernel spells it. -/
def sg (x : F .f32) : F .f32 :=
  FloatOps.divf (Scalar.ofBits .f32 0x3F800000#32)
    (FloatOps.addf (Scalar.ofBits .f32 0x3F800000#32) (FloatOps.exp (FloatOps.subf (Scalar.ofBits .f32 0x00000000#32) x)))

/-- Eight times the width, and the height, of the anchor shape `ai`. -/
def awOf (ai : ℕ) : F .f32 :=
  if ai = 0 then Scalar.ofBits .f32 0x41400000#32 else if ai = 1 then Scalar.ofBits .f32 0x41980000#32 else Scalar.ofBits .f32 0x42200000#32
def ahOf (ai : ℕ) : F .f32 :=
  if ai = 0 then Scalar.ofBits .f32 0x41800000#32 else if ai = 1 then Scalar.ofBits .f32 0x42100000#32 else Scalar.ofBits .f32 0x41E00000#32
/-- The anchor's angle: its number less two, in units of a sixth of a half turn. -/
def angOf (aj : ℕ) : F .f32 :=
  Scalar.mulf (Scalar.subf (Scalar.sitofp .f32 (BitVec.ofNat 32 aj)) (Scalar.ofBits .f32 0x40000000#32)) (Scalar.ofBits .f32 0x3F060A92#32)

/-- The column of grid cell `g` as a number: its group's first column and its place in the group of sixteen. -/
def colOf (g : ℕ) : F .f32 :=
  FloatOps.addf (Scalar.sitofp .f32 (BitVec.ofNat 32 (g / 16 * 16 % 64))) (FloatOps.sitofp .f32 (BitVec.ofNat 32 (g % 16)))

/-- The decoded number of slab `ba`, grid cell `g` and channel `c`, from the number `x` there. -/
def scCell (ba g c : ℕ) (x : F .f32) : F .f32 :=
  if c = 0 then
    FloatOps.addf (FloatOps.mulf (sg x) (Scalar.ofBits .f32 0x41066666#32))
      (FloatOps.subf (FloatOps.mulf (colOf g) (Scalar.ofBits .f32 0x41000000#32)) (Scalar.ofBits .f32 0x3E4CCCCD#32))
  else if c = 1 then
    FloatOps.addf (FloatOps.mulf (sg x) (Scalar.ofBits .f32 0x41066666#32))
      (Scalar.subf (Scalar.mulf (Scalar.sitofp .f32 (BitVec.ofNat 32 (g / 64))) (Scalar.ofBits .f32 0x41000000#32)) (Scalar.ofBits .f32 0x3E4CCCCD#32))
  else if c = 2 then FloatOps.mulf (FloatOps.exp x) (awOf (ba % 18 / 6))
  else if c = 3 then FloatOps.mulf (FloatOps.exp x) (ahOf (ba % 18 / 6))
  else if c = 4 then FloatOps.addf x (angOf (ba % 18 % 6))
  else sg x

/-! ## A scatter of sixteen -/

/-- Storing at the listed places, one after another: a place that nothing names keeps what it held. -/
theorem foldl_store_miss {α ι : Type} {s : Shape} (at_ : ι → s.Idx) (v : ι → α) (l : List ι) (f : s.Idx → α) (j : s.Idx)
    (h : ∀ k ∈ l, ¬ ∀ a, (j a).val = (at_ k a).val) :
    (l.foldl (fun g k => fun j => if (∀ a, (j a).val = (at_ k a).val) then v k else g j) f) j = f j := by
  induction l generalizing f with
  | nil => rfl
  | cons k l ih =>
    rw [List.foldl_cons, ih _ (fun k' hk' => h k' (List.mem_cons_of_mem _ hk'))]
    exact if_neg (h k List.mem_cons_self)

/-- A place that exactly one of them names holds what that one stores. -/
theorem foldl_store_hit {α ι : Type} [DecidableEq ι] {s : Shape} (at_ : ι → s.Idx) (v : ι → α) (l : List ι) (f : s.Idx → α) (j : s.Idx) (k : ι) (hk : k ∈ l)
    (hj : ∀ a, (j a).val = (at_ k a).val) (h : ∀ k' ∈ l, (∀ a, (j a).val = (at_ k' a).val) → k' = k) :
    (l.foldl (fun g k => fun j => if (∀ a, (j a).val = (at_ k a).val) then v k else g j) f) j = v k := by
  induction l generalizing f with
  | nil => cases hk
  | cons k' l ih =>
    rw [List.foldl_cons]
    by_cases hl : k ∈ l
    · exact ih _ hl fun k'' hk'' => h k'' (List.mem_cons_of_mem _ hk'')
    · obtain rfl : k = k' := (List.mem_cons.mp hk).resolve_right hl
      rw [foldl_store_miss at_ v l _ j fun k'' hk'' hj'' => hl (h k'' (List.mem_cons_of_mem _ hk'') hj'' ▸ hk'')]
      exact if_pos hj

/-- Where a place of the flat scratch belongs: its grid cell of the chunk, and its channel. -/
abbrev celln (i : S22016.Idx) : ℕ := (i 0).val / 86
abbrev chan (i : S22016.Idx) : ℕ := (i 0).val % 86

/-- The place of lane `k` in a vector of sixteen. -/
abbrev lane (k : Fin 16) : S16.Idx := Shape.ofLane (d := ![16]) k

/-- The scratch after sixteen results `v` are scattered to channel `c` of cells `n`, `n + 1`, ..., `n + 15`. -/
def scat (r : Vec F S22016 .f32) (n c : ℕ) (v : FVec F S16 .f32) : Vec F S22016 .f32 :=
  fun i => if h : chan i = c ∧ n ≤ celln i ∧ celln i < n + 16 then v (lane ⟨celln i - n, by omega⟩) else r i

/-- A vector of sixteen places that names channel `c` of those cells stores exactly that. -/
theorem storeIdx_scat (r : Vec F S22016 .f32) (n c : ℕ) (hn : n + 16 ≤ 256) (hc : c < 86) (ix : IVec S16 32) (v : FVec F S16 .f32)
    (hix : ∀ l : S16.Idx, ix l = BitVec.ofNat 32 ((n + (l 0).val) * 86 + c))
    (h : ∀ a x, ((![ix] : Fin 1 → IVec S16 32) a x).toNat < S22016.size a) :
    storeIdx (e := .f32) r (![ix] : Fin 1 → IVec S16 32) v (fun _ => 1#1) false h = scat r n c v := by
  have hat : ∀ l : S16.Idx, (ix l).toNat = (n + (l 0).val) * 86 + c := fun l => by
    rw [hix l]; have : (l 0).val < 16 := (l 0).isLt
    exact toNat_small (by omega)
  have hunf : storeIdx (e := .f32) r (![ix] : Fin 1 → IVec S16 32) v (fun _ => 1#1) false h
      = (List.finRange 16).foldl (fun g (k : Fin 16) => fun j => if (∀ a, (j a).val = (idxAt (s := S22016) (![ix] : Fin 1 → IVec S16 32) h (lane k) a).val)
          then v (lane k) else g j) r := by
    unfold storeIdx
    simp only [Bool.false_eq_true, if_false, if_true]
    rfl
  rw [hunf]
  have hval : ∀ (k : Fin 16) (a : Fin 1), (idxAt (s := S22016) (![ix] : Fin 1 → IVec S16 32) h (lane k) a).val = (n + k.val) * 86 + c := by
    intro k a
    obtain rfl : a = 0 := Subsingleton.elim _ _
    exact hat (lane k)
  funext i
  unfold scat
  by_cases hi : chan i = c ∧ n ≤ celln i ∧ celln i < n + 16
  · rw [dif_pos hi]
    obtain ⟨h1, h2, h3⟩ := hi
    refine (foldl_store_hit _ (fun k => v (lane k)) (List.finRange 16) r i ⟨celln i - n, by omega⟩ (List.mem_finRange _) ?_ ?_).trans ?_
    · intro a
      rw [hval]
      obtain rfl : a = 0 := Subsingleton.elim _ _
      have := Nat.div_add_mod (i 0).val 86
      simp only [chan, celln] at h1 h2 h3 ⊢
      omega
    · intro k' _ hk'
      have := hk' 0
      rw [hval] at this
      apply Fin.ext
      simp only [chan, celln] at h1 h2 h3 ⊢
      omega
    · rfl
  · rw [dif_neg hi]
    refine foldl_store_miss _ _ _ _ _ fun k _ hk => hi ?_
    have := hk 0
    rw [hval] at this
    have := k.isLt
    simp only [chan, celln]
    omega

end Cert.Proof.Decode

end
-- ==== Proof.Lanes.lean ====
/-
  The vectors of sixteen that a tile computes and stores, lane by lane, and the scratch they add up to.
-/
module

public import proofs.«01_k».proof.Proof.Decode
public import Idealize.ShloMosaic.Lib.Pipeline.Value

@[expose] public section

noncomputable section

namespace Cert.Proof.Decode

open Cert.KernelIdeal Cert.KernelIdeal.Gen
open Idealize.ShloMosaic Cert.Proof.Words

variable {F : FTy → Type} [FloatOps F]

/-- Row `c`, place `g` of a chunk. -/
def spot (c g : ℕ) : S86x256.Idx := Fin.cons (⟨c % 86, Nat.mod_lt _ (by decide)⟩ : Fin 86) (Fin.cons (⟨g % 256, Nat.mod_lt _ (by decide)⟩ : Fin 256) finZeroElim)

/-- The decoded chunk `ch` of slab `ba`, as the flat scratch holds it, from the chunk as read. -/
def decodeChunk (ba ch : ℕ) (X : Vec F S86x256 .f32) : Vec F S22016 .f32 :=
  fun i => scCell ba (256 * ch + celln i) (chan i) (X (spot (chan i) (celln i)))

/-- The scratch `r` is the decoded chunk at the cells and channels that `p` tells. -/
def Good (ba ch : ℕ) (X : Vec F S86x256 .f32) (p : ℕ → ℕ → Prop) (r : Vec F S22016 .f32) : Prop :=
  ∀ i, p (celln i) (chan i) → r i = decodeChunk ba ch X i

theorem Good.none {ba ch : ℕ} {X : Vec F S86x256 .f32} {p : ℕ → ℕ → Prop} (r : Vec F S22016 .f32) (h : ∀ n c, ¬ p n c) : Good ba ch X p r :=
  fun _ hi => absurd hi (h _ _)

theorem Good.mono {ba ch : ℕ} {X : Vec F S86x256 .f32} {p p' : ℕ → ℕ → Prop} {r : Vec F S22016 .f32} (h : Good ba ch X p r)
    (hp : ∀ n c, n < 256 → c < 86 → p' n c → p n c) : Good ba ch X p' r :=
  fun i hi => h i (hp _ _ (Nat.div_lt_of_lt_mul (i 0).isLt) (Nat.mod_lt _ (by decide)) hi)

theorem Good.all {ba ch : ℕ} {X : Vec F S86x256 .f32} {p : ℕ → ℕ → Prop} {r : Vec F S22016 .f32} (h : Good ba ch X p r)
    (hp : ∀ n c, n < 256 → c < 86 → p n c) : r = decodeChunk ba ch X :=
  funext fun i => h i (hp _ _ (Nat.div_lt_of_lt_mul (i 0).isLt) (Nat.mod_lt _ (by decide)))

/-- One scatter of sixteen right results. -/
theorem Good.scat {ba ch : ℕ} {X : Vec F S86x256 .f32} {p p' : ℕ → ℕ → Prop} {r : Vec F S22016 .f32} (h : Good ba ch X p r) (n c : ℕ) (v : FVec F S16 .f32)
    (hv : ∀ k : Fin 16, v (lane k) = scCell ba (256 * ch + (n + k.val)) c (X (spot c (n + k.val))))
    (hp : ∀ n' c', n' < 256 → c' < 86 → p' n' c' → ¬ (c' = c ∧ n ≤ n' ∧ n' < n + 16) → p n' c') : Good ba ch X p' (scat r n c v) := by
  intro i hi
  unfold Decode.scat
  by_cases hc : chan i = c ∧ n ≤ celln i ∧ celln i < n + 16
  · rw [dif_pos hc, hv]
    have h1 : n + (celln i - n) = celln i := by omega
    simp only [h1, ← hc.1]
    rfl
  · rw [dif_neg hc]
    exact h i (hp _ _ (Nat.div_lt_of_lt_mul (i 0).isLt) (Nat.mod_lt _ (by decide)) hi hc)

/-! ## Words -/

/-- The lanes' numbers. -/
abbrev lanes : IVec S16 32 := iota .scVector S16 32 [0] iota_S16_d0_w32_scVector

theorem lanes_apply (l : S16.Idx) : lanes l = BitVec.ofNat 32 (l 0).val := iota_single_apply .scVector S16 32 0 iota_S16_d0_w32_scVector l

theorem trip_word (b n : ℕ) : IntOp.addi (BitVec.ofNat 32 b) (IntOp.muli (Scf.iv 0#32 1#32 n) 1#32) = BitVec.ofNat 32 (b + n) := by
  unfold Scf.iv IntOp.addi IntOp.muli
  rw [BitVec.zero_add, BitVec.mul_one, BitVec.mul_one, BitVec.ofNat_add]

/-- The group's first column, and with the lanes', every column. -/
theorem pay1_lane (ch : ℕ) (hch : ch < 16) (t : Fin k1_t2_loop.trips) (k : Fin 16) :
    k1_pay1 (F := F) k1_pay41 (BitVec.ofNat 32 (256 * ch)) 0#32 1#32 t (lane k) = colOf (256 * ch + (16 * t.val + k.val)) := by
  have ht : t.val < 16 := t.isLt
  have hw : fmodW .scalar (IntOp.addi (BitVec.ofNat 32 (256 * ch)) (IntOp.muli (IntOp.addi 0#32 (IntOp.muli (Scf.iv 0#32 1#32 t.val) 1#32)) 16#32)) 64#32
      = BitVec.ofNat 32 ((256 * ch + (16 * t.val + k.val)) / 16 * 16 % 64) := by
    rw [show (0#32) = BitVec.ofNat 32 0 from rfl, trip_word, show (16#32) = BitVec.ofNat 32 16 from rfl, muli_small, addi_small, show (64#32) = BitVec.ofNat 32 64 from rfl,
      fmodW_small _ (by omega) (by decide) (by decide)]
    congr 1; omega
  have hk : (256 * ch + (16 * t.val + k.val)) % 16 = k.val := by omega
  show FloatOps.addf (Scalar.sitofp .f32 (fmodW .scalar (IntOp.addi (BitVec.ofNat 32 (256 * ch)) (IntOp.muli (IntOp.addi 0#32 (IntOp.muli (Scf.iv 0#32 1#32 t.val) 1#32)) 16#32)) 64#32))
    (FloatOps.sitofp .f32 (lanes (lane k))) = _
  rw [hw, lanes_apply]
  unfold colOf
  rw [hk]
  rfl

/-- The group's line. -/
theorem pay2_eq (ch : ℕ) (hch : ch < 16) (t : Fin k1_t2_loop.trips) (k : Fin 16) :
    k1_pay2 (F := F) (BitVec.ofNat 32 (256 * ch)) 0#32 1#32 t = Scalar.sitofp .f32 (BitVec.ofNat 32 ((256 * ch + (16 * t.val + k.val)) / 64)) := by
  have ht : t.val < 16 := t.isLt
  show Scalar.sitofp .f32 (fdivW .scalar (IntOp.addi (BitVec.ofNat 32 (256 * ch)) (IntOp.muli (IntOp.addi 0#32 (IntOp.muli (Scf.iv 0#32 1#32 t.val) 1#32)) 16#32)) 64#32) = _
  rw [show (0#32) = BitVec.ofNat 32 0 from rfl, trip_word, show (16#32) = BitVec.ofNat 32 16 from rfl, muli_small, addi_small, show (64#32) = BitVec.ofNat 32 64 from rfl,
    fdivW_small _ (by omega) (by decide) (by decide)]
  congr 2; omega

theorem pay3_apply (t : Fin k1_t2_loop.trips) (l : S16.Idx) : k1_pay3 lanes 0#32 1#32 t l = BitVec.ofNat 32 ((16 * t.val + (l 0).val) * 86) := by
  show IntOp.muli (IntOp.addi (IntOp.muli (IntOp.addi 0#32 (IntOp.muli (Scf.iv 0#32 1#32 t.val) 1#32)) 16#32) (lanes l)) 86#32 = _
  rw [show (0#32) = BitVec.ofNat 32 0 from rfl, trip_word, show (16#32) = BitVec.ofNat 32 16 from rfl, muli_small, lanes_apply, addi_small, show (86#32) = BitVec.ofNat 32 86 from rfl, muli_small]
  congr 1; omega

/-- A channel's places: the group's first place and the channel. -/
theorem place_apply (t : Fin k1_t2_loop.trips) (c : ℕ) (l : S16.Idx) :
    addi (k1_pay3 lanes 0#32 1#32 t) (broadcast S16 (BitVec.ofNat 32 c)) l = BitVec.ofNat 32 ((16 * t.val + (l 0).val) * 86 + c) := by
  show IntOp.addi (k1_pay3 lanes 0#32 1#32 t l) (BitVec.ofNat 32 c) = _
  rw [pay3_apply, addi_small]

/-- Sixteen places of one channel lie in the scratch. -/
theorem place_inb (n c : ℕ) (hn : n + 16 ≤ 256) (hc : c < 86) (ix : IVec S16 32) (hix : ∀ l : S16.Idx, ix l = BitVec.ofNat 32 ((n + (l 0).val) * 86 + c)) :
    ∀ a x, ((![ix] : Fin 1 → IVec S16 32) a x).toNat < S22016.size a := by
  intro a x
  obtain rfl : a = 0 := Subsingleton.elim _ _
  show (ix x).toNat < 22016
  have : (x 0).val < 16 := (x 0).isLt
  rw [hix x, toNat_small (by omega)]
  omega

/-! ## The words of the second loop: its trip counts the rest of the chunk, channel by channel, in sixteens -/

theorem rest_word (n : ℕ) : IntOp.muli (IntOp.addi 80#32 (IntOp.muli (Scf.iv 0#32 1#32 n) 1#32)) 16#32 = BitVec.ofNat 32 ((80 + n) * 16) := by
  rw [show (80#32) = BitVec.ofNat 32 80 from rfl, trip_word, show (16#32) = BitVec.ofNat 32 16 from rfl, muli_small]

theorem rest_chan (n : ℕ) (hn : n < 1296) : fdivW .scalar (IntOp.muli (IntOp.addi 80#32 (IntOp.muli (Scf.iv 0#32 1#32 n) 1#32)) 16#32) 256#32 = BitVec.ofNat 32 ((80 + n) / 16) := by
  rw [rest_word, show (256#32) = BitVec.ofNat 32 256 from rfl, fdivW_small _ (by omega) (by decide) (by decide)]
  congr 1; omega

theorem rest_cell (n : ℕ) (hn : n < 1296) : fmodW .scalar (IntOp.muli (IntOp.addi 80#32 (IntOp.muli (Scf.iv 0#32 1#32 n) 1#32)) 16#32) 256#32 = BitVec.ofNat 32 (16 * ((80 + n) % 16)) := by
  rw [rest_word, show (256#32) = BitVec.ofNat 32 256 from rfl, fmodW_small _ (by omega) (by decide) (by decide)]
  congr 1; omega

theorem off9_eq (t : Fin k1_t3_loop.trips) : k1_off9 t = ![(80 + t.val) / 16, 16 * ((80 + t.val) % 16)] := by
  have ht : t.val < 1296 := t.isLt
  show ![(fdivW .scalar (IntOp.muli (IntOp.addi 80#32 (IntOp.muli (Scf.iv 0#32 1#32 t.val) 1#32)) 16#32) 256#32).toNat,
    (fmodW .scalar (IntOp.muli (IntOp.addi 80#32 (IntOp.muli (Scf.iv 0#32 1#32 t.val) 1#32)) 16#32) 256#32).toNat] = _
  rw [rest_chan _ ht, rest_cell _ ht, toNat_small (by omega), toNat_small (by omega)]

theorem pay29_apply (n : ℕ) (c : ℕ) (l : S16.Idx) : k1_pay29 lanes (BitVec.ofNat 32 c) (BitVec.ofNat 32 n) l = BitVec.ofNat 32 ((n + (l 0).val) * 86 + c) := by
  show IntOp.addi (IntOp.muli (IntOp.addi (BitVec.ofNat 32 n) (lanes l)) 86#32) (BitVec.ofNat 32 c) = _
  rw [lanes_apply, addi_small, show (86#32) = BitVec.ofNat 32 86 from rfl, muli_small, addi_small]

/-! ## The vectors stored -/

/-- Sixteen numbers read from a row, as a vector of sixteen. -/
theorem read_lane (X : Vec F S86x256 .f32) (off : Fin 2 → ℕ) (inb : ∀ a, off a + S1x16.size a ≤ S86x256.size a) (c n : ℕ) (hoff : off = ![c, n]) (hc : c < 86) (hn : n + 16 ≤ 256)
    (h : S1x16.ShapeCasts S16) (k : Fin 16) :
    shapeCast S16 (fun x => X ((Rect.unit (s := S86x256) off S1x16.size inb).toLoadRect.idx x)) h (lane k) = X (spot c (n + k.val)) := by
  refine (shapeCast_dropUnit_apply (n := 1) ![16] _ h (lane k)).trans (congrArg X ?_)
  have hk := k.isLt
  subst hoff
  funext a
  apply Fin.ext
  rw [LoadRect.idx_apply]
  match a with
  | 0 => show c + 1 * 0 = c % 86; omega
  | 1 => show n + 1 * k.val = (n + k.val) % 256; omega

variable (ba ch : ℕ) (ld : Vec F S1x16 .f32) (k : Fin 16) (x : F .f32) (hx : shapeCast S16 ld shapeCasts_S1x16_S16 (lane k) = x)
include hx

theorem pay4_lane (v : FVec F S16 .f32) (g : ℕ) (hv : v (lane k) = colOf g) : k1_pay4 v ld (lane k) = scCell ba g 0 x := by
  subst hx
  show FloatOps.addf (FloatOps.mulf (sg (shapeCast S16 ld shapeCasts_S1x16_S16 (lane k))) (Scalar.ofBits .f32 0x41066666#32))
      (FloatOps.subf (FloatOps.mulf (v (lane k)) (Scalar.ofBits .f32 0x41000000#32)) (Scalar.ofBits .f32 0x3E4CCCCD#32)) = _
  rw [hv]; rfl

theorem pay6_lane (v : F .f32) (g : ℕ) (hv : v = Scalar.sitofp .f32 (BitVec.ofNat 32 (g / 64))) : k1_pay6 v ld (lane k) = scCell ba g 1 x := by
  subst hx hv; rfl

theorem pay22_lane (g : ℕ) : k1_pay22 (awOf (ba % 18 / 6)) ld (lane k) = scCell ba g 2 x := by subst hx; rfl
theorem pay24_lane (g : ℕ) : k1_pay24 (ahOf (ba % 18 / 6)) ld (lane k) = scCell ba g 3 x := by subst hx; rfl
theorem pay26_lane (g : ℕ) : k1_pay26 (angOf (ba % 18 % 6)) ld (lane k) = scCell ba g 4 x := by subst hx; rfl
theorem pay28_lane (g c : ℕ) (hc : 5 ≤ c) : k1_pay28 (k1_pay8 ld) k1_pay9 (lane k) = scCell ba g c x := by
  subst hx
  unfold scCell
  rw [if_neg (by omega), if_neg (by omega), if_neg (by omega), if_neg (by omega), if_neg (by omega)]
  rfl

end Cert.Proof.Decode

end
-- ==== Proof.Setup.lean ====
/-
  The launch as both halves of the kernel see it: one TensorCore pipeline and one SparseCore call in one program.
-/
module

public import proofs.«01_k».proof.Proof.Lanes
public import Idealize.ShloMosaic.Lib.SparseCore.Quiescent
public import Idealize.ShloMosaic.Lib.SparseCore.Ops
public import Idealize.ShloMosaic.Lib.Transfers
public import Idealize.ShloMosaic.Lib.Pipeline.Regions
public import Idealize.ShloMosaic.Lib.Pipeline.Kit
public import Idealize.ShloMosaic.Lib.StableHlo.Run
public import Idealize.ShloMosaic.Lib.Tactic
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- What the two protocols count in: the call's handshakes, the pipeline's staging cells, the tiles' own transfers. -/
abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
def EP : Emb UK (MT nD τ sig (HIx 1) (Elt F) ℕ UU ℕ) := (Emb.inl : Emb UK (UK × Counters)).trans embR

instance EH_landsIn : (EH : Emb UH 𝕄).LandsIn (upEmb : UEmb _ 𝕄) := by unfold EH; infer_instance
instance EP_landsIn : (EP : Emb UK 𝕄).LandsIn (upEmb : UEmb _ 𝕄) := by unfold EP; infer_instance

abbrev EC : UEmb Counters (MT nD τ sig (HIx 1) (Elt F) ℕ UU ℕ) := countersEmb

/-- The arrays of device `d` that the two kernels take and leave. -/
abbrev xLoc (d : Dev nD) : Loc nD τ sig := (SparseCore.T d).loc main_v0
abbrev zLoc (d : Dev nD) : Loc nD τ sig := (SparseCore.T d).loc main_v1
abbrev yLoc (d : Dev nD) : Loc nD τ sig := (SparseCore.T d).loc main_v2

end Cert.Proof.Run

end
-- ==== Proof.Inner.lean ====
/-
  The two loops of a tile that turn one chunk, read into one scratch, into the decoded chunk in another.  Both scratches
  are any whole buffers of the right shapes: the tile runs the same two loops on two pairs of them.
-/
module

public import proofs.«01_k».proof.Proof.Setup

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable (d : Dev nD) (i : grid1.Coords)

/-- The tile at grid point `i`: its SparseCore and its place in it. -/
abbrev cV (i : grid1.Coords) : Fin τ.nSC := (i 0).castLE hcore1
abbrev jV (i : grid1.Coords) : Fin τ.nSub := (i 1).castLE hsub1
abbrev tile : Thread nD τ := V d (cV i) (jV i)

/-- A scratch of the tile that reads `r`. -/
def Has {s : Shape} (a : Memref sig .scVector .vmem s .f32) (r : Vec F s .f32) : sProp 𝕄 :=
  iprop(∃ f, ⌜a.view.read (Elt F) f = r⌝ ∗ (a.view.loc (tile d i) ↦[a.view.set]{fullShare} f))

/-- The whole of a scratch, accessed as a rectangle, is the scratch. -/
structure Plain {s : Shape} (a : Memref sig .scVector .vmem s .f32) : Prop where
  set : (a.access (.whole s)).set = a.view.set
  read : ∀ f, (a.access (.whole s)).read (Elt F) f = a.view.read (Elt F) f

variable {d i}

theorem load_has {s : Shape} {a : Memref sig .scVector .vmem s .f32} {r : LoadRect s} {hl : a.view.LoadsAt r} {X : Vec F s .f32} {α : Type}
    {k : (r.shape.Idx → Elt F .f32) → Prog (TpuEff nD τ sig (Elt F) Λ₀ (.scVector (cV i) (jV i))) α} {Q : α → sProp 𝕄} :
    Has d i a X
      ⊢ iprop((Has d i a X -∗ wp frame (wpE (defs₀ (F := F)) 𝒱₀ (tile d i) none) Set.univ (k (fun x => X (r.idx x))) Q)
        -∗ wp frame (wpE (defs₀ (F := F)) 𝒱₀ (tile d i) none) Set.univ (.op (.load a r hl) k) Q) := by
  unfold Has
  iintro ⟨%f, %hf, H⟩ Hk
  iapply (wp_load (defs := defs₀ (F := F)) 𝒱₀ (tile d i) none Set.univ (m := a) (r := r) (hl := hl) (k := k) (S := a.view.set) (f := f) (q := fullShare)
    (a.view.setOn_subset_set _)) $$ H
  iintro H
  have hrd : a.view.readAt (Elt F) r f = fun x => X (r.idx x) := by
    funext x; rw [View.readAt_apply, hf]
  rw [hrd]
  iapply Hk
  iexists f
  isplitr; · ipureintro; exact hf
  iexact H

theorem store_has {a : Memref sig .scVector .vmem S22016 .f32} (ha : Plain (F := F) a) {r : Vec F S22016 .f32} {α : Type}
    {ix : IVec S16 32} {v : FVec F S16 .f32} {h : ∀ a x, ((![ix] : Fin 1 → IVec S16 32) a x).toNat < S22016.size a}
    {hs : (a.access (.whole S22016)).Stores Finset.univ} (n c : ℕ) (hn : n + 16 ≤ 256) (hc : c < 86)
    (hix : ∀ l : S16.Idx, ix l = BitVec.ofNat 32 ((n + (l 0).val) * 86 + c))
    {k : PUnit → Prog (TpuEff nD τ sig (Elt F) Λ₀ (.scVector (cV i) (jV i))) α} {Q : α → sProp 𝕄} :
    Has d i a r
      ⊢ iprop((Has d i a (scat r n c v) -∗ wp frame (wpE (defs₀ (F := F)) 𝒱₀ (tile d i) none) Set.univ (k ⟨⟩) Q)
        -∗ wp frame (wpE (defs₀ (F := F)) 𝒱₀ (tile d i) none) Set.univ
          (SparseCore.vectorStoreIdx a (![ix] : Fin 1 → IVec S16 32) v (fun _ => 1#1) false h hs >>= k) Q) := by
  unfold Has
  iintro ⟨%f, %hf, H⟩ Hk
  rw [← ha.set]
  iapply (SparseCore.wp_vectorStoreIdx (defs := defs₀ (F := F)) 𝒱₀ (tile d i) none Set.univ (base := a)) $$ H
  iintro H
  iapply Hk
  iexists _
  isplitr
  swap
  · iexact H
  · ipureintro
    rw [← ha.read, View.read_write_univ, ha.read, hf]
    exact storeIdx_scat r n c hn hc ix v hix h

end

/-! ## The first loop: channels 0 to 4, sixteen cells a trip -/

section

variable (d : Dev nD) (i : grid1.Coords)
  (arg2 : Memref sig .scVector .hbm S144x86x4096 .f32) (harg2 : arg2.IsWhole) (arg3 : Memref sig .scVector .hbm S40x16x22016 .f32) (harg3 : arg3.IsWhole)
  (arg4 : Memref sig .scVector .vmem S86x256 .f32) (harg4 : arg4.IsWhole) (arg5 : Memref sig .scVector .vmem S86x256 .f32) (harg5 : arg5.IsWhole)
  (arg6 : Memref sig .scVector .vmem S22016 .f32) (harg6 : arg6.IsWhole) (arg7 : Memref sig .scVector .vmem S22016 .f32) (harg7 : arg7.IsWhole)
  (arg8 arg9 arg10 arg11 : DmaSems sig S_)
  (ba ch : ℕ) (hch : ch < 16) (X : Vec F S86x256 .f32)

/-- What the first loop has done before trip `n`, and the second. -/
def inv1 (n : ℕ) (_ : PUnit) : sProp 𝕄 :=
  iprop(Has d i arg4 X ∗ ∃ r, ⌜Good ba ch X (fun g c => c < 5 ∧ g < 16 * n) r⌝ ∗ Has d i arg6 r)
def inv2 (n : ℕ) (_ : PUnit) : sProp 𝕄 :=
  iprop(Has d i arg4 X ∗ ∃ r, ⌜Good ba ch X (fun g c => c < 5 ∨ c * 256 + g < 1280 + 16 * n) r⌝ ∗ Has d i arg6 r)

include hch in
theorem trip1 (h6 : Plain (F := F) arg6) (k1_t1 : Fin k1_t1_loop.trips) (v1 v138 v139 : BitVec 32) (t : Fin k1_t2_loop.trips) (u : Unit) :
    inv1 d i arg4 arg6 ba ch X t.val u
      ⊢ wp frame (wpE (defs₀ (F := F)) 𝒱₀ (tile d i) none) Set.univ
          (k1_t2_body i arg2 harg2 arg3 harg3 arg4 harg4 arg5 harg5 arg6 harg6 arg7 harg7 arg8 arg9 arg10 arg11
            v1 lanes k1_pay41 k1_t1 v138 v139 (BitVec.ofNat 32 (256 * ch)) (awOf (ba % 18 / 6)) (ahOf (ba % 18 / 6)) (angOf (ba % 18 % 6)) t u)
          (inv1 d i arg4 arg6 ba ch X (t.val + 1)) := by
  have ht : t.val < 16 := t.isLt
  have hn : 16 * t.val + 16 ≤ 256 := by omega
  unfold k1_t2_body
  simp only [k1_part1_eq_skeleton, k1_part2_eq_skeleton]; unfold k1_part1_skel k1_part2_skel
  simp only [Prog.lift, Prog.bind_op, Prog.bind_ret, Prog.pure_eq_ret, Prog.bind_assoc]
  unfold inv1
  iintro ⟨H4, %r, %hr, H6⟩
  iapply load_has $$ H4
  iintro H4
  iapply (wp_assume 𝒱₀ (tile d i) none Set.univ (place_inb _ 0 hn (by decide) _ (place_apply t 0)))
  iapply (store_has h6 (16 * t.val) 0 hn (by decide) (place_apply t 0)) $$ H6
  iintro H6
  iapply load_has $$ H4
  iintro H4
  iapply (wp_assume 𝒱₀ (tile d i) none Set.univ (place_inb _ 1 hn (by decide) _ (place_apply t 1)))
  iapply (store_has h6 (16 * t.val) 1 hn (by decide) (place_apply t 1)) $$ H6
  iintro H6
  iapply load_has $$ H4
  iintro H4
  iapply (wp_assume 𝒱₀ (tile d i) none Set.univ (place_inb _ 2 hn (by decide) _ (place_apply t 2)))
  iapply (store_has h6 (16 * t.val) 2 hn (by decide) (place_apply t 2)) $$ H6
  iintro H6
  iapply load_has $$ H4
  iintro H4
  iapply (wp_assume 𝒱₀ (tile d i) none Set.univ (place_inb _ 3 hn (by decide) _ (place_apply t 3)))
  iapply (store_has h6 (16 * t.val) 3 hn (by decide) (place_apply t 3)) $$ H6
  iintro H6
  iapply load_has $$ H4
  iintro H4
  iapply (wp_assume 𝒱₀ (tile d i) none Set.univ (place_inb _ 4 hn (by decide) _ (place_apply t 4)))
  iapply (store_has h6 (16 * t.val) 4 hn (by decide) (place_apply t 4)) $$ H6
  iintro H6
  rw [wp_ret]; imodintro
  isplitl [H4]; · iexact H4
  iexists _
  isplitr
  swap
  · iexact H6
  ipureintro
  have g0 := hr.scat (p' := fun g c => c < 5 ∧ (g < 16 * t.val ∨ (g < 16 * t.val + 16 ∧ c ≤ 0))) (16 * t.val) 0 _
    (fun k => pay4_lane ba _ k _ (read_lane X _ (k1_off4_inb t) 0 _ (k1_off4_eq t) (by decide) hn _ k) _ _ (pay1_lane ch hch t k)) (by intro g c; omega)
  have g1 := g0.scat (p' := fun g c => c < 5 ∧ (g < 16 * t.val ∨ (g < 16 * t.val + 16 ∧ c ≤ 1))) (16 * t.val) 1 _
    (fun k => pay6_lane ba _ k _ (read_lane X _ (k1_off5_inb t) 1 _ (k1_off5_eq t) (by decide) hn _ k) _ _ (pay2_eq ch hch t k)) (by intro g c; omega)
  have g2 := g1.scat (p' := fun g c => c < 5 ∧ (g < 16 * t.val ∨ (g < 16 * t.val + 16 ∧ c ≤ 2))) (16 * t.val) 2 _
    (fun k => pay22_lane ba _ k _ (read_lane X _ (k1_off6_inb t) 2 _ (k1_off6_eq t) (by decide) hn _ k) _) (by intro g c; omega)
  have g3 := g2.scat (p' := fun g c => c < 5 ∧ (g < 16 * t.val ∨ (g < 16 * t.val + 16 ∧ c ≤ 3))) (16 * t.val) 3 _
    (fun k => pay24_lane ba _ k _ (read_lane X _ (k1_off7_inb t) 3 _ (k1_off7_eq t) (by decide) hn _ k) _) (by intro g c; omega)
  exact g3.scat (16 * t.val) 4 _
    (fun k => pay26_lane ba _ k _ (read_lane X _ (k1_off8_inb t) 4 _ (k1_off8_eq t) (by decide) hn _ k) _) (by intro g c; omega)

theorem trip2 (h6 : Plain (F := F) arg6) (k1_t1 : Fin k1_t1_loop.trips) (v1 v138 v139 v170 : BitVec 32) (v211 v215 v218 : F .f32) (t : Fin k1_t3_loop.trips) (u : Unit) :
    inv2 d i arg4 arg6 ba ch X t.val u
      ⊢ wp frame (wpE (defs₀ (F := F)) 𝒱₀ (tile d i) none) Set.univ
          (k1_t3_body i arg2 harg2 arg3 harg3 arg4 harg4 arg5 harg5 arg6 harg6 arg7 harg7 arg8 arg9 arg10 arg11
            v1 lanes k1_pay41 k1_t1 v138 v139 v170 v211 v215 v218 t u)
          (inv2 d i arg4 arg6 ba ch X (t.val + 1)) := by
  have ht : t.val < 1296 := t.isLt
  have hn : 16 * ((80 + t.val) % 16) + 16 ≤ 256 := by omega
  have hc : (80 + t.val) / 16 < 86 := by omega
  unfold k1_t3_body
  simp only [k1_part3_eq_skeleton]; unfold k1_part3_skel
  simp only [Prog.lift, Prog.bind_op, Prog.bind_ret, Prog.pure_eq_ret, Prog.bind_assoc]
  unfold inv2
  iintro ⟨H4, %r, %hr, H6⟩
  iapply load_has $$ H4
  iintro H4
  have hix : ∀ l : S16.Idx, k1_pay29 lanes (fdivW .scalar (IntOp.muli (IntOp.addi 80#32 (IntOp.muli (Scf.iv 0#32 1#32 t.val) 1#32)) 16#32) 256#32)
      (fmodW .scalar (IntOp.muli (IntOp.addi 80#32 (IntOp.muli (Scf.iv 0#32 1#32 t.val) 1#32)) 16#32) 256#32) l
      = BitVec.ofNat 32 ((16 * ((80 + t.val) % 16) + (l 0).val) * 86 + (80 + t.val) / 16) := by
    intro l; rw [rest_chan _ ht, rest_cell _ ht]; exact pay29_apply _ _ l
  iapply (wp_assume 𝒱₀ (tile d i) none Set.univ (place_inb _ _ hn hc _ hix))
  iapply (store_has h6 _ _ hn hc hix) $$ H6
  iintro H6
  rw [wp_ret]; imodintro
  isplitl [H4]; · iexact H4
  iexists _
  isplitr
  swap
  · iexact H6
  ipureintro
  exact hr.scat _ _ _ (fun k => pay28_lane ba _ k _ (read_lane X _ (k1_off9_inb t) _ _ (off9_eq t) hc hn _ k) _ _ (by omega)) (by intro g c; omega)

end

end Cert.Proof.Run

end
-- ==== Proof.Tasks.lean ====
/-
  Which chunk each step of a tile is about: the words the tile computes its places from, in closed form.
-/
module

public import proofs.«01_k».proof.Proof.Lanes

@[expose] public section

noncomputable section

namespace Cert.Proof.Run

open Cert.KernelIdeal Cert.KernelIdeal.Gen
open Cert.Proof.Decode Cert.Proof.Words
open Idealize.ShloMosaic

variable {F : FTy → Type} [FloatOps F]

/-- The chunk, among all 640 of the slabs from 104 on, that tile `i` takes at its step `k`. -/
def taskNo (i : grid1.Coords) (k : ℕ) : ℕ := (i 1).val * 2 + (i 0).val + 32 * k

theorem coords_lt (i : grid1.Coords) : (i 0).val < 2 ∧ (i 1).val < 16 := ⟨(i 0).isLt, (i 1).isLt⟩

theorem taskNo_lt (i : grid1.Coords) {k : ℕ} (hk : k < 20) : taskNo i k < 640 := by
  have := coords_lt i
  unfold taskNo; omega

/-- The tile's number, as a word. -/
abbrev widW (i : grid1.Coords) : BitVec 32 := IntOp.addi (IntOp.muli (BitVec.ofNat 32 (i 1).val) 2#32) (BitVec.ofNat 32 (i 0).val)

theorem widW_eq (i : grid1.Coords) : widW i = BitVec.ofNat 32 ((i 1).val * 2 + (i 0).val) := by
  unfold widW
  rw [show (2#32) = BitVec.ofNat 32 2 from rfl, muli_small, addi_small]

/-- Twice the trip. -/
abbrev pairW (n : ℕ) : BitVec 32 := IntOp.addi 0#32 (IntOp.muli (Scf.iv 0#32 1#32 n) 2#32)

theorem pairW_eq (n : ℕ) : pairW n = BitVec.ofNat 32 (2 * n) := by
  unfold pairW Scf.iv IntOp.addi IntOp.muli
  rw [BitVec.zero_add, BitVec.zero_add, BitVec.mul_one, ← BitVec.ofNat_mul, Nat.mul_comm]

theorem taskW (i : grid1.Coords) (k : ℕ) : IntOp.addi (widW i) (IntOp.muli (BitVec.ofNat 32 k) 32#32) = BitVec.ofNat 32 (taskNo i k) := by
  rw [widW_eq, show (32#32) = BitVec.ofNat 32 32 from rfl, muli_small, addi_small]
  congr 1
  unfold taskNo; omega

/-- A chunk's place in the input, and in the output, from its number. -/
def inAt (w : BitVec 32) : Fin 3 → ℕ := ![(IntOp.addi 104#32 (fdivW .scalar w 16#32)).toNat, 0, (IntOp.muli (fmodW .scalar w 16#32) 256#32).toNat]
def outAt (w : BitVec 32) : Fin 3 → ℕ := ![(fdivW .scalar w 16#32).toNat, (fmodW .scalar w 16#32).toNat, 0]

abbrev inOff (T : ℕ) : Fin 3 → ℕ := ![104 + T / 16, 0, 256 * (T % 16)]
abbrev outOff (T : ℕ) : Fin 3 → ℕ := ![T / 16, T % 16, 0]

section
variable {T : ℕ} (hT : T < 640)
include hT

theorem slabW : IntOp.addi 104#32 (fdivW .scalar (BitVec.ofNat 32 T) 16#32) = BitVec.ofNat 32 (104 + T / 16) := by
  rw [show (16#32) = BitVec.ofNat 32 16 from rfl, fdivW_small _ (by omega) (by decide) (by decide), show (104#32) = BitVec.ofNat 32 104 from rfl, addi_small]

theorem chunkW : IntOp.muli (fmodW .scalar (BitVec.ofNat 32 T) 16#32) 256#32 = BitVec.ofNat 32 (256 * (T % 16)) := by
  rw [show (16#32) = BitVec.ofNat 32 16 from rfl, fmodW_small _ (by omega) (by decide) (by decide), show (256#32) = BitVec.ofNat 32 256 from rfl, muli_small, Nat.mul_comm]

theorem inAt_eq : inAt (BitVec.ofNat 32 T) = inOff T := by
  unfold inAt
  rw [slabW hT, chunkW hT, toNat_small (by omega), toNat_small (by omega)]

theorem outAt_eq : outAt (BitVec.ofNat 32 T) = outOff T := by
  unfold outAt
  rw [show (16#32) = BitVec.ofNat 32 16 from rfl, fdivW_small _ (by omega) (by decide) (by decide), fmodW_small _ (by omega) (by decide) (by decide), toNat_small (by omega), toNat_small (by omega)]

/-- The slab's anchor. -/
theorem anchorW : fmodW .scalar (IntOp.addi 104#32 (fdivW .scalar (BitVec.ofNat 32 T) 16#32)) 18#32 = BitVec.ofNat 32 ((104 + T / 16) % 18) := by
  rw [slabW hT, show (18#32) = BitVec.ofNat 32 18 from rfl, fmodW_small _ (by omega) (by decide) (by decide)]

theorem shapeW : fdivW .scalar (fmodW .scalar (IntOp.addi 104#32 (fdivW .scalar (BitVec.ofNat 32 T) 16#32)) 18#32) 6#32 = BitVec.ofNat 32 ((104 + T / 16) % 18 / 6) := by
  rw [anchorW hT, show (6#32) = BitVec.ofNat 32 6 from rfl, fdivW_small _ (by omega) (by decide) (by decide)]

theorem angleW : fmodW .scalar (fmodW .scalar (IntOp.addi 104#32 (fdivW .scalar (BitVec.ofNat 32 T) 16#32)) 18#32) 6#32 = BitVec.ofNat 32 ((104 + T / 16) % 18 % 6) := by
  rw [anchorW hT, show (6#32) = BitVec.ofNat 32 6 from rfl, fmodW_small _ (by omega) (by decide) (by decide)]
end

theorem pay30_eq (n : ℕ) (hn : n < 3) : k1_pay30 (F := F) (BitVec.ofNat 32 n) = awOf n := by
  match n, hn with
  | 0, _ => rfl
  | 1, _ => rfl
  | 2, _ => rfl

theorem pay31_eq (n : ℕ) (hn : n < 3) : k1_pay31 (F := F) (BitVec.ofNat 32 n) = ahOf n := by
  match n, hn with
  | 0, _ => rfl
  | 1, _ => rfl
  | 2, _ => rfl

theorem off1_eq (i : grid1.Coords) (c : BitVec 32) : k1_off1 i c = inAt (IntOp.addi (widW i) c) := rfl
theorem off2_eq (i : grid1.Coords) (t : Fin k1_t1_loop.trips) (r : ℕ) :
    k1_off2 i t (BitVec.ofNat 32 r) = inAt (BitVec.ofNat 32 (taskNo i (2 * t.val + r))) := by
  show inAt (IntOp.addi (widW i) (IntOp.muli (IntOp.addi (pairW t.val) (BitVec.ofNat 32 r)) 32#32)) = _
  rw [pairW_eq, addi_small, taskW]
theorem off10_eq (i : grid1.Coords) (t : Fin k1_t1_loop.trips) (r : ℕ) :
    k1_off10 i t (BitVec.ofNat 32 r) = outAt (BitVec.ofNat 32 (taskNo i (2 * t.val + r))) := by
  show outAt (IntOp.addi (widW i) (IntOp.muli (IntOp.addi (pairW t.val) (BitVec.ofNat 32 r)) 32#32)) = _
  rw [pairW_eq, addi_small, taskW]
theorem off11_eq (i : grid1.Coords) (t : Fin k1_t1_loop.trips) : k1_off11 i t = inAt (BitVec.ofNat 32 (taskNo i (2 * t.val + 2))) := by
  show inAt (IntOp.addi (widW i) (IntOp.muli (IntOp.addi (IntOp.addi (pairW t.val) (BitVec.ofNat 32 0)) (BitVec.ofNat 32 2)) 32#32)) = _
  rw [pairW_eq, addi_small, addi_small, taskW]
theorem off19_eq (i : grid1.Coords) (t : Fin k1_t1_loop.trips) : k1_off19 i t = inAt (BitVec.ofNat 32 (taskNo i (2 * t.val + 3))) := by
  show inAt (IntOp.addi (widW i) (IntOp.muli (IntOp.addi (IntOp.addi (pairW t.val) (BitVec.ofNat 32 1)) (BitVec.ofNat 32 2)) 32#32)) = _
  rw [pairW_eq, addi_small, addi_small, taskW]

theorem off1_first (i : grid1.Coords) (r : ℕ) : k1_off1 i (BitVec.ofNat 32 (32 * r)) = inAt (BitVec.ofNat 32 (taskNo i r)) := by
  rw [off1_eq, widW_eq, addi_small]
  rfl

/-- The tile's branches: whether a store is still on its way, and whether another chunk follows. -/
theorem cond1_iff : ∀ t : Fin k1_t1_loop.trips, k1_cond1 t = 1#1 ↔ 1 ≤ t.val := by decide
theorem cond2_iff : ∀ t : Fin k1_t1_loop.trips, k1_cond2 t = 1#1 ↔ t.val < 9 := by decide
theorem cond3_iff : ∀ t : Fin k1_t1_loop.trips, k1_cond3 t = 1#1 ↔ 1 ≤ t.val := by decide
theorem cond4_iff : ∀ t : Fin k1_t1_loop.trips, k1_cond4 t = 1#1 ↔ t.val < 9 := by decide

end Cert.Proof.Run

end
-- ==== Proof.Moves.lean ====
/-
  A tile's copies: a chunk of the input into a scratch, and a decoded chunk out to its block of the result.  Each is one flight, and
  what a flight brings back is stated once, at the chunk's number.
-/
module

public import proofs.«01_k».proof.Proof.Inner
public import proofs.«01_k».proof.Proof.Tasks
public import Idealize.ShloMosaic.Lib.ViewIndex

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What is held beside a flight may be held inside it. -/
theorem flight_frame {c : Thread nD τ} {sm : SemLoc sig} {N : ℕ} {A B : sProp 𝕄} :
    iprop(Transfers.Flight (EC (F := F)) c sm none N A ∗ B) ⊢ Transfers.Flight EC c sm none N iprop(A ∗ B) := by
  unfold Transfers.Flight
  iintro ⟨⟨⟨%R, HR, %hcap, %hpeek⟩, Hcred⟩, HB⟩
  isplitr [Hcred]
  · iexists iprop(R ∗ B)
    isplitl [HR HB]; · isplitl [HR] <;> iassumption
    isplit
    · ipureintro
      intro Kc
      iintro ⟨⟨HR, HB⟩, Hk⟩
      iapply (hcap Kc)
      isplitl [HR]; · iexact HR
      iintro ⟨Hv, HA⟩
      iapply Hk
      isplitl [Hv]; · iexact Hv
      isplitl [HA] <;> iassumption
    · ipureintro
      intro Kc
      iintro ⟨⟨HR, HB⟩, Hk⟩
      iapply (hpeek Kc)
      isplitl [HR]; · iexact HR
      iintro HR
      iapply Hk
      isplitl [HR] <;> iassumption
  · iexact Hcred

/-! ## Where a chunk lies -/

/-- Row `c`, place `g` of chunk `T`, in the input. -/
def inIdx (T : ℕ) (p : S86x256.Idx) : S144x86x4096.Idx :=
  Fin.cons (⟨(104 + T / 16) % 144, Nat.mod_lt _ (by decide)⟩ : Fin 144)
    (Fin.cons (⟨(p 0).val, (p 0).isLt⟩ : Fin 86) (Fin.cons (⟨(256 * (T % 16) + (p 1).val) % 4096, Nat.mod_lt _ (by decide)⟩ : Fin 4096) finZeroElim))

/-- Chunk `T` of the input. -/
def chunkOf {Val : Type} (x : S144x86x4096.Idx → Val) (T : ℕ) : S86x256.Idx → Val := fun p => x (inIdx T p)

/-- The block of the result that chunk `T` fills. -/
def blockOf (T : ℕ) : Finset S40x16x22016.Idx := Finset.univ.filter fun o => (o 0).val = T / 16 ∧ (o 1).val = T % 16

abbrev xm : Memref sig .scVector .hbm S144x86x4096 .f32 := Memref.whole main_v0_scv
abbrev ym : Memref sig .scVector .hbm S40x16x22016 .f32 := Memref.whole main_v2_scv

abbrev inM (off : Fin 3 → ℕ) (inb : ∀ a, off a + S1x86x256.size a ≤ S144x86x4096.size a) : Memref sig .scVector .hbm S86x256 .f32 :=
  (xm.slice (Rect.unit (s := S144x86x4096) off S1x86x256.size inb) (fun _ => rfl)).squeeze S86x256 squeezes_S1x86x256_S86x256
abbrev outM (off : Fin 3 → ℕ) (inb : ∀ a, off a + S1x1x22016.size a ≤ S40x16x22016.size a) : Memref sig .scVector .hbm S22016 .f32 :=
  (ym.slice (Rect.unit (s := S40x16x22016) off S1x1x22016.size inb) (fun _ => rfl)).squeeze S22016 squeezes_S1x1x22016_S22016

theorem read_inM {off : Fin 3 → ℕ} (inb) {T : ℕ} (hT : T < 640) (hoff : off = inOff T) (x : S144x86x4096.Idx → Elt F .f32) :
    (inM off inb).view.read (Elt F) x = chunkOf x T := by
  subst hoff
  funext p
  refine (congrFun (Memref.read_squeeze_slice (Val := Elt F) xm (Rect.unit (s := S144x86x4096) (inOff T) S1x86x256.size inb) (fun _ => rfl) squeezes_S1x86x256_S86x256
    squeezes_S1x86x256_S86x256.numel_eq x) p).trans ?_
  refine (shapeCast_dropUnit_apply (n := 2) ![86, 256] _ squeezes_S1x86x256_S86x256.numel_eq p).trans ?_
  rw [View.readAt_apply]
  show x _ = x (inIdx T p)
  congr 1
  have h0 : (p 0).val < 86 := (p 0).isLt
  have h1 : (p 1).val < 256 := (p 1).isLt
  funext a
  apply Fin.ext
  match a with
  | 0 => show 104 + T / 16 + 1 * 0 = (104 + T / 16) % 144; omega
  | 1 => show 0 + 1 * (p 0).val = (p 0).val; omega
  | 2 => show 256 * (T % 16) + 1 * (p 1).val = (256 * (T % 16) + (p 1).val) % 4096; omega

/-- Place `i` of block `T`. -/
def outIdx (T : ℕ) (p : S22016.Idx) : S40x16x22016.Idx :=
  Fin.cons (⟨T / 16 % 40, Nat.mod_lt _ (by decide)⟩ : Fin 40)
    (Fin.cons (⟨T % 16, Nat.mod_lt _ (by decide)⟩ : Fin 16) (Fin.cons (⟨(p 0).val, (p 0).isLt⟩ : Fin 22016) finZeroElim))

theorem read_outM {off : Fin 3 → ℕ} (inb) {T : ℕ} (hT : T < 640) (hoff : off = outOff T) (y : S40x16x22016.Idx → Elt F .f32) (p : S22016.Idx) :
    (outM off inb).view.read (Elt F) y p = y (outIdx T p) := by
  subst hoff
  refine (congrFun (Memref.read_squeeze_slice (Val := Elt F) ym (Rect.unit (s := S40x16x22016) (outOff T) S1x1x22016.size inb) (fun _ => rfl) squeezes_S1x1x22016_S22016
    squeezes_S1x1x22016_S22016.numel_eq y) p).trans ?_
  refine (shapeCast_apply _ _ p (Fin.cons (0 : Fin 1) (Fin.cons (0 : Fin 1) (Fin.cons (p 0) finZeroElim))) ?_).trans ?_
  · rw [Shape.rowMajor_val_three, Shape.rowMajor_val_one]
    show (0 * 1 + 0) * 22016 + (p 0).val = (p 0).val
    omega
  rw [View.readAt_apply]
  show y _ = y (outIdx T p)
  congr 1
  funext a
  apply Fin.ext
  match a with
  | 0 => show T / 16 + 1 * 0 = T / 16 % 40; omega
  | 1 => show T % 16 + 1 * 0 = T % 16; omega
  | 2 => show 0 + 1 * (p 0).val = (p 0).val; omega

theorem set_outM {off : Fin 3 → ℕ} (inb) {T : ℕ} (hoff : off = outOff T) : (outM off inb).view.set = blockOf T := by
  subst hoff
  show ((ym.view.slice (Rect.unit (s := S40x16x22016) (outOff T) S1x1x22016.size inb)).reshape S22016 squeezes_S1x1x22016_S22016.numel_eq).set = _
  rw [View.set_reshape]
  refine (View.set_slice_whole main_v2_scv _).trans ?_
  ext o
  refine (Rect.mem_set_unit (s := S40x16x22016)).trans ?_
  unfold blockOf
  rw [Finset.mem_filter]
  have h2 : (o 2).val < 22016 := (o 2).isLt
  constructor
  · intro h
    have h0 : T / 16 ≤ (o 0).val ∧ (o 0).val < T / 16 + 1 := h 0
    have h1 : T % 16 ≤ (o 1).val ∧ (o 1).val < T % 16 + 1 := h 1
    exact ⟨Finset.mem_univ _, by omega, by omega⟩
  · rintro ⟨-, h0, h1⟩ a
    match a with
    | 0 => show T / 16 ≤ (o 0).val ∧ (o 0).val < T / 16 + 1; omega
    | 1 => show T % 16 ≤ (o 1).val ∧ (o 1).val < T % 16 + 1; omega
    | 2 => show 0 ≤ (o 2).val ∧ (o 2).val < 0 + 22016; omega

/-! ## The copies -/

section
variable {d : Dev nD} {i : grid1.Coords}

/-- A copy of chunk `T` on its way into a scratch. -/
abbrev Coming (d : Dev nD) (i : grid1.Coords) (x : Buf (Elt F) (xLoc d)) (q : PosShare TreeShare) (a : Memref sig .scVector .vmem S86x256 .f32) (sem : DmaSem sig) (T : ℕ) : sProp 𝕄 :=
  Transfers.Flight EC (tile d i) (.dma sem) none a.view.dmaCredit iprop(Has d i a (chunkOf x T) ∗ (xLoc d ↦[Finset.univ]{q} x))

/-- A copy of a decoded chunk on its way to block `T`. -/
abbrev Going (d : Dev nD) (i : grid1.Coords) (y : Buf (Elt F) (yLoc d)) (a : Memref sig .scVector .vmem S22016 .f32) (sem : DmaSem sig) (T : ℕ) : sProp 𝕄 :=
  Transfers.Flight EC (tile d i) (.dma sem) none (main_v2_scv.dmaCredit S22016 .f32) iprop((yLoc d ↦[blockOf T]{fullShare} y) ∗ ∃ r, Has d i a r)

theorem come {x : Buf (Elt F) (xLoc d)} {q : PosShare TreeShare} {a : Memref sig .scVector .vmem S86x256 .f32} {sem : DmaSem sig} {T : ℕ} (hT : T < 640)
    {off : Fin 3 → ℕ} {inb : ∀ a, off a + S1x86x256.size a ≤ S144x86x4096.size a} (hoff : off = inOff T)
    {h1 : (inM off inb).view.WordExact} {h2 : a.view.WordExact} {h3 : DmaTarget.Typed (nD := nD) .hbm (.dma sem) (.here (p := Proc.scVector (cV i) (jV i)) a)}
    {α : Type} {Q : α → sProp 𝕄} {k : PUnit → Prog (TpuEff nD τ sig (Elt F) Λ₀ (.scVector (cV i) (jV i))) α} :
    iprop((∃ r, Has d i a r) ∗ (xLoc d ↦[Finset.univ]{q} x) ∗ semVal (tile d i, .dma sem) 0)
      ⊢ iprop((Coming d i x q a sem T -∗ wp frame (wpE (defs₀ (F := F)) 𝒱₀ (tile d i) none) Set.univ (k ⟨⟩) Q)
        -∗ wp frame (wpE (defs₀ (F := F)) 𝒱₀ (tile d i) none) Set.univ (.op (.enqueueDma (inM off inb) (.here a) (.dma sem) h1 h2 h3) k) Q) := by
  unfold Has
  iintro ⟨⟨%r, %f, %hf, Ha⟩, Hx, Hs⟩ Hk
  ihave Hx' := (pointsTo_split_subset (Finset.subset_univ (inM off inb).view.set)).1 $$ Hx
  icases Hx' with ⟨Hx, Hrest⟩
  iapply (Transfers.wp_dmaLocal EC 𝒱₀ (tile d i) none (src := inM off inb) (via := ReadAs.same) none a.view.dmaCredit rfl
    (View.dmaCredit_pos _ (by decide)) (Finset.Subset.refl a.view.set)) $$ [Hx Ha Hs]
  · isplitl [Hx]; · iexact Hx
    isplitl [Ha]; · iexact Ha
    iexact Hs
  iintro Hfl
  iapply Hk
  unfold Coming
  iapply (Transfers.Flight_mono EC (tile d i) (D := iprop((iprop((a.view.loc (tile d i) ↦[a.view.set]{fullShare} (a.view.write (Elt F) f (ReadAs.same.apply ((inM off inb).view.read (Elt F) x)) Finset.univ))
      ∗ ((inM off inb).view.loc (tile d i) ↦[(inM off inb).view.set]{q} x))) ∗ (xLoc d ↦[Finset.univ \ (inM off inb).view.set]{q} x))) ?_)
  · iintro ⟨⟨Ha, Hx⟩, Hrest⟩
    isplitl [Ha]
    · unfold Has
      iexists (a.view.write (Elt F) f (ReadAs.same.apply ((inM off inb).view.read (Elt F) x)) Finset.univ)
      isplitr
      · ipureintro
        rw [View.read_write_univ]
        exact read_inM inb hT hoff x
      · iexact Ha
    · iapply (pointsTo_split_subset (Finset.subset_univ (inM off inb).view.set)).2
      isplitl [Hx]; · iexact Hx
      iexact Hrest
  · iapply flight_frame
    isplitl [Hfl]; · iexact Hfl
    iexact Hrest

theorem came {x : Buf (Elt F) (xLoc d)} {q : PosShare TreeShare} {a : Memref sig .scVector .vmem S86x256 .f32} {sem : DmaSem sig} {T : ℕ}
    {m' : Memref sig .scVector .hbm S86x256 .f32} {O : CellTallies nD τ sig (HIx 1)} {W : Waits sig (HIx 1)} (hO : ∀ g, O g none = 0)
    {h1 : m'.view.WordExact} {h2 : a.view.WordExact}
    {α : Type} {Q : α → sProp 𝕄} {k : PUnit → Prog (TpuEff nD τ sig (Elt F) Λ₀ (.scVector (cV i) (jV i))) α} :
    iprop(levAts (K (F := F)).L (K (F := F)).lev ∗ Coming d i x q a sem T ∗ owes (tile d i) O W)
      ⊢ iprop((iprop(Has d i a (chunkOf x T) ∗ (xLoc d ↦[Finset.univ]{q} x) ∗ semVal (tile d i, .dma sem) 0 ∗ owes (tile d i) O (insert (SemLoc.dma sem, none) W))
          -∗ wp frame (wpE (defs₀ (F := F)) 𝒱₀ (tile d i) none) Set.univ (k ⟨⟩) Q)
        -∗ wp frame (wpE (defs₀ (F := F)) 𝒱₀ (tile d i) none) Set.univ (.op (.waitDma2 sem m' a h1 h2) k) Q) := by
  iintro ⟨Hlv, Hfl, HO⟩ Hk
  iapply (Transfers.wp_waitLocalO EC 𝒱₀ (tile d i) none none (N := a.view.dmaCredit) rfl (O := O) (W := W)) $$ [Hlv Hfl HO]
  · isplitl [Hfl]; · iexact Hfl
    isplitl [HO]; · iexact HO
    iapply ((K (F := F)).mayWait_none (SemLoc.dma sem) hO); iexact Hlv
  iintro ⟨⟨Ha, Hx⟩, Hs, HO⟩
  iapply Hk
  isplitl [Ha]; · iexact Ha
  isplitl [Hx]; · iexact Hx
  isplitl [Hs]; · iexact Hs
  iexact HO

theorem goOut {y y0 : Buf (Elt F) (yLoc d)} {a : Memref sig .scVector .vmem S22016 .f32} {sem : DmaSem sig} {T : ℕ} (hT : T < 640) {r : Vec F S22016 .f32}
    (hr : ∀ p, y (outIdx T p) = r p)
    {off : Fin 3 → ℕ} {inb : ∀ a, off a + S1x1x22016.size a ≤ S40x16x22016.size a} (hoff : off = outOff T)
    {h1 : a.view.WordExact} {h2 : (outM off inb).view.WordExact} {h3 : DmaTarget.Typed (nD := nD) .vmem (.dma sem) (.here (p := Proc.scVector (cV i) (jV i)) (outM off inb))}
    {α : Type} {Q : α → sProp 𝕄} {k : PUnit → Prog (TpuEff nD τ sig (Elt F) Λ₀ (.scVector (cV i) (jV i))) α} :
    iprop(Has d i a r ∗ (yLoc d ↦[blockOf T]{fullShare} y0) ∗ semVal (tile d i, .dma sem) 0)
      ⊢ iprop((Going d i y a sem T -∗ wp frame (wpE (defs₀ (F := F)) 𝒱₀ (tile d i) none) Set.univ (k ⟨⟩) Q)
        -∗ wp frame (wpE (defs₀ (F := F)) 𝒱₀ (tile d i) none) Set.univ (.op (.enqueueDma a (.here (outM off inb)) (.dma sem) h1 h2 h3) k) Q) := by
  unfold Has
  rw [← set_outM inb hoff]
  iintro ⟨⟨%f, %hf, Ha⟩, Hy, Hs⟩ Hk
  iapply (Transfers.wp_dmaLocal EC 𝒱₀ (tile d i) none (src := a) (dst := outM off inb) (via := ReadAs.same) none (main_v2_scv.dmaCredit S22016 .f32) rfl
    (View.dmaCredit_pos (outM off inb).view (by decide)) (Finset.Subset.refl (outM off inb).view.set)) $$ [Hy Ha Hs]
  · isplitl [Ha]; · iexact Ha
    isplitl [Hy]; · iexact Hy
    iexact Hs
  iintro Hfl
  iapply Hk
  unfold Going
  iapply (Transfers.Flight_mono EC (tile d i) ?_) $$ Hfl
  iintro ⟨Hy, Ha⟩
  isplitl [Hy]
  · rw [← set_outM inb hoff]
    iapply (Entails.of_eq (pointsTo_congr ?_)) $$ Hy
    intro o ho
    obtain ⟨p, -, rfl⟩ := Finset.mem_map.mp ho
    refine View.eq_of_read_eq (v := (outM off inb).view) (Val := Elt F) (x := p) ?_
    rw [View.read_write_univ, read_outM inb hT hoff, hr, ← hf]
  · iexists _
    unfold Has
    iexists f
    isplitr; · ipureintro; rfl
    iexact Ha

theorem gone {y : Buf (Elt F) (yLoc d)} {a : Memref sig .scVector .vmem S22016 .f32} {sem : DmaSem sig} {T : ℕ}
    {off : Fin 3 → ℕ} {inb : ∀ a, off a + S1x1x22016.size a ≤ S40x16x22016.size a} {O : CellTallies nD τ sig (HIx 1)} {W : Waits sig (HIx 1)} (hO : ∀ g, O g none = 0)
    {h1 : a.view.WordExact} {h2 : (outM off inb).view.WordExact}
    {α : Type} {Q : α → sProp 𝕄} {k : PUnit → Prog (TpuEff nD τ sig (Elt F) Λ₀ (.scVector (cV i) (jV i))) α} :
    iprop(levAts (K (F := F)).L (K (F := F)).lev ∗ Going d i y a sem T ∗ owes (tile d i) O W)
      ⊢ iprop((iprop((yLoc d ↦[blockOf T]{fullShare} y) ∗ (∃ r, Has d i a r) ∗ semVal (tile d i, .dma sem) 0 ∗ owes (tile d i) O (insert (SemLoc.dma sem, none) W))
          -∗ wp frame (wpE (defs₀ (F := F)) 𝒱₀ (tile d i) none) Set.univ (k ⟨⟩) Q)
        -∗ wp frame (wpE (defs₀ (F := F)) 𝒱₀ (tile d i) none) Set.univ (.op (.waitDma2 sem a (outM off inb) h1 h2) k) Q) := by
  iintro ⟨Hlv, Hfl, HO⟩ Hk
  iapply (Transfers.wp_waitLocalO EC 𝒱₀ (tile d i) none none (N := main_v2_scv.dmaCredit S22016 .f32) rfl (O := O) (W := W)) $$ [Hlv Hfl HO]
  · isplitl [Hfl]; · iexact Hfl
    isplitl [HO]; · iexact HO
    iapply ((K (F := F)).mayWait_none (SemLoc.dma sem) hO); iexact Hlv
  iintro ⟨⟨Hy, Ha⟩, Hs, HO⟩
  iapply Hk
  isplitl [Hy]; · iexact Hy
  isplitl [Ha]; · iexact Ha
  isplitl [Hs]; · iexact Hs
  iexact HO

end

end Cert.Proof.Run

end
-- ==== Proof.Steps.lean ====
/-
  One step of a tile: its chunk arrives, the block last sent from the same scratch has left, the two loops decode, the decoded
  chunk is sent, and the chunk two steps on is asked for.  The steps take the two pairs of scratches in turn.
-/
module

public import proofs.«01_k».proof.Proof.Moves

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section

variable {d : Dev nD} {i : grid1.Coords}

/-- A branch with nothing to hand on but what it holds. -/
theorem wp_branch {c : Prop} [Decidable c] {α : Type} {Q : α → sProp 𝕄} {P R : sProp 𝕄}
    {p : c → Prog (TpuEff nD τ sig (Elt F) Λ₀ (.scVector (cV i) (jV i))) Unit} {p' : ¬ c → Prog (TpuEff nD τ sig (Elt F) Λ₀ (.scVector (cV i) (jV i))) Unit}
    {k : Unit → Prog (TpuEff nD τ sig (Elt F) Λ₀ (.scVector (cV i) (jV i))) α}
    (h : ∀ hc, P ⊢ wp frame (wpE (defs₀ (F := F)) 𝒱₀ (tile d i) none) Set.univ (p hc) (fun _ => R))
    (h' : ∀ hc, P ⊢ wp frame (wpE (defs₀ (F := F)) 𝒱₀ (tile d i) none) Set.univ (p' hc) (fun _ => R)) :
    P ⊢ iprop((R -∗ wp frame (wpE (defs₀ (F := F)) 𝒱₀ (tile d i) none) Set.univ (k ⟨⟩) Q)
      -∗ wp frame (wpE (defs₀ (F := F)) 𝒱₀ (tile d i) none) Set.univ ((if hc : c then p hc else p' hc) >>= k) Q) := by
  iintro HP Hk
  rw [wp_bind]
  iapply (wp_wand) $$ [HP] [Hk]
  · by_cases hc : c
    · rw [dif_pos hc]; iapply (h hc); iexact HP
    · rw [dif_neg hc]; iapply (h' hc); iexact HP
  · iintro %u HR
    iapply Hk
    iexact HR

end

/-! ## The two loops together -/

section

variable {d : Dev nD} {i : grid1.Coords}
  {arg2 : Memref sig .scVector .hbm S144x86x4096 .f32} {harg2 : arg2.IsWhole} {arg3 : Memref sig .scVector .hbm S40x16x22016 .f32} {harg3 : arg3.IsWhole}
  {arg4 : Memref sig .scVector .vmem S86x256 .f32} {harg4 : arg4.IsWhole} {arg5 : Memref sig .scVector .vmem S86x256 .f32} {harg5 : arg5.IsWhole}
  {arg6 : Memref sig .scVector .vmem S22016 .f32} {harg6 : arg6.IsWhole} {arg7 : Memref sig .scVector .vmem S22016 .f32} {harg7 : arg7.IsWhole}
  {arg8 arg9 arg10 arg11 : DmaSems sig S_}
  {ba ch : ℕ} {X : Vec F S86x256 .f32}

theorem loops (hch : ch < 16) (h6 : Plain (F := F) arg6) {k1_t1 : Fin k1_t1_loop.trips} {v1 v138 v139 v170 : BitVec 32} {v211 v215 v218 : F .f32}
    (e170 : v170 = BitVec.ofNat 32 (256 * ch)) (e211 : v211 = awOf (ba % 18 / 6)) (e215 : v215 = ahOf (ba % 18 / 6)) (e218 : v218 = angOf (ba % 18 % 6))
    {α : Type} {Q : α → sProp 𝕄} {k : Unit → Prog (TpuEff nD τ sig (Elt F) Λ₀ (.scVector (cV i) (jV i))) α} :
    iprop(Has d i arg4 X ∗ ∃ r, Has d i arg6 r)
      ⊢ iprop((iprop(Has d i arg4 X ∗ Has d i arg6 (decodeChunk ba ch X)) -∗ wp frame (wpE (defs₀ (F := F)) 𝒱₀ (tile d i) none) Set.univ (k ⟨⟩) Q)
        -∗ wp frame (wpE (defs₀ (F := F)) 𝒱₀ (tile d i) none) Set.univ
            (Scf.Loop.for k1_t2_loop k1_t2_ok ⟨⟩ (k1_t2_body i arg2 harg2 arg3 harg3 arg4 harg4 arg5 harg5 arg6 harg6 arg7 harg7 arg8 arg9 arg10 arg11 v1 lanes k1_pay41 k1_t1 v138 v139 v170 v211 v215 v218)
              >>= fun _ => Scf.Loop.for k1_t3_loop k1_t3_ok ⟨⟩ (k1_t3_body i arg2 harg2 arg3 harg3 arg4 harg4 arg5 harg5 arg6 harg6 arg7 harg7 arg8 arg9 arg10 arg11 v1 lanes k1_pay41 k1_t1 v138 v139 v170 v211 v215 v218)
              >>= k) Q) := by
  subst e170 e211 e215 e218
  iintro ⟨H4, %r, H6⟩ Hk
  sl_for (inv1 d i arg4 arg6 ba ch X) $$ [H4 H6]
  · intro t u
    exact trip1 d i arg2 harg2 arg3 harg3 arg4 harg4 arg5 harg5 arg6 harg6 arg7 harg7 arg8 arg9 arg10 arg11 ba ch hch X h6 k1_t1 v1 v138 v139 t u
  · unfold inv1
    isplitl [H4]; · iexact H4
    iexists r
    isplitr; · ipureintro; exact Good.none _ (fun n c => by omega)
    iexact H6
  iintro %u HI
  unfold inv1
  icases HI with ⟨H4, %r1, %hr1, H6⟩
  sl_for (inv2 d i arg4 arg6 ba ch X) $$ [H4 H6]
  · intro t u
    exact trip2 d i arg2 harg2 arg3 harg3 arg4 harg4 arg5 harg5 arg6 harg6 arg7 harg7 arg8 arg9 arg10 arg11 ba ch X h6 k1_t1 v1 v138 v139 _ _ _ _ t u
  · unfold inv2
    isplitl [H4]; · iexact H4
    iexists r1
    isplitr
    · ipureintro
      refine hr1.mono (fun n c hn hc h => ?_)
      refine ⟨by omega, ?_⟩
      show n < 16 * 16
      omega
    iexact H6
  iintro %u HI
  unfold inv2
  icases HI with ⟨H4, %r2, %hr2, H6⟩
  iapply Hk
  isplitl [H4]; · iexact H4
  have e : r2 = decodeChunk ba ch X := hr2.all (fun n c hn hc => Or.inr (by show c * 256 + n < 1280 + 16 * 1296; omega))
  subst e
  iexact H6

end

/-! ## What a tile holds between steps -/

section

variable (d : Dev nD) (i : grid1.Coords)

/-- Before step `k`, of the pair of scratches whose turn it is: its chunk is on its way, if there is one. -/
def inSlot (x : Buf (Elt F) (xLoc d)) (q : PosShare TreeShare) (a : Memref sig .scVector .vmem S86x256 .f32) (sem : DmaSem sig) (k : ℕ) : sProp 𝕄 :=
  if k < 20 then Coming d i x q a sem (taskNo i k) else iprop((∃ r, Has d i a r) ∗ (xLoc d ↦[Finset.univ]{q} x) ∗ semVal (tile d i, .dma sem) 0)

/-- The block it sent two steps ago is on its way, if there was one. -/
def outSlot (y : Buf (Elt F) (yLoc d)) (a : Memref sig .scVector .vmem S22016 .f32) (sem : DmaSem sig) (k : ℕ) : sProp 𝕄 :=
  if k < 2 then iprop((∃ r, Has d i a r) ∗ semVal (tile d i, .dma sem) 0) else Going d i y a sem (taskNo i (k - 2))

/-- The tile's blocks from step `k` on, and those before step `n`. -/
def pend (y0 : Buf (Elt F) (yLoc d)) (k : ℕ) : sProp 𝕄 := bigSep (Finset.Ico k 20) fun j => (yLoc d ↦[blockOf (taskNo i j)]{fullShare} y0)
def past (y : Buf (Elt F) (yLoc d)) (n : ℕ) : sProp 𝕄 := bigSep (Finset.range n) fun j => (yLoc d ↦[blockOf (taskNo i j)]{fullShare} y)

/-- What the tile owes, all its waits so far being for its own copies. -/
def owing (O : CellTallies nD τ sig (HIx 1)) (W : Waits sig (HIx 1)) : sProp 𝕄 :=
  iprop(∃ W', ⌜∀ p ∈ W', p ∈ W ∨ p.2 = none⌝ ∗ owes (tile d i) O W')

variable {d i}

theorem inSlot_lt {x : Buf (Elt F) (xLoc d)} {q a sem} {k : ℕ} (h : k < 20) : inSlot d i x q a sem k = Coming d i x q a sem (taskNo i k) := if_pos h
theorem inSlot_ge {x : Buf (Elt F) (xLoc d)} {q a sem} {k : ℕ} (h : ¬ k < 20) :
    inSlot d i x q a sem k = iprop((∃ r, Has d i a r) ∗ (xLoc d ↦[Finset.univ]{q} x) ∗ semVal (tile d i, .dma sem) 0) := if_neg h
theorem outSlot_lt {y : Buf (Elt F) (yLoc d)} {a sem} {k : ℕ} (h : k < 2) :
    outSlot d i y a sem k = iprop((∃ r, Has d i a r) ∗ semVal (tile d i, .dma sem) 0) := if_pos h
theorem outSlot_ge {y : Buf (Elt F) (yLoc d)} {a sem} {k : ℕ} : outSlot d i y a sem (k + 2) = Going d i y a sem (taskNo i k) := if_neg (by omega)

theorem pend_step (y0 : Buf (Elt F) (yLoc d)) {k : ℕ} (h : k < 20) :
    pend d i y0 k = iprop((yLoc d ↦[blockOf (taskNo i k)]{fullShare} y0) ∗ pend d i y0 (k + 1)) := by
  unfold pend
  rw [show Finset.Ico k 20 = insert k (Finset.Ico (k + 1) 20) by ext j; simp only [Finset.mem_insert, Finset.mem_Ico]; omega, SparseCore.bigSep_insert' (by simp)]

theorem past_step (y : Buf (Elt F) (yLoc d)) (n : ℕ) : past d i y (n + 1) = iprop((yLoc d ↦[blockOf (taskNo i n)]{fullShare} y) ∗ past d i y n) := by
  unfold past
  rw [Finset.range_add_one, SparseCore.bigSep_insert' (by simp)]

theorem owing_open {O : CellTallies nD τ sig (HIx 1)} {W : Waits sig (HIx 1)} :
    owing d i O W ⊢ (iprop(∃ W', ⌜∀ p ∈ W', p ∈ W ∨ p.2 = none⌝ ∗ owes (tile d i) O W') : sProp 𝕄) := .rfl

theorem owing_insert {O : CellTallies nD τ sig (HIx 1)} {W W' : Waits sig (HIx 1)} (sem : SemLoc sig) (h : ∀ p ∈ W', p ∈ W ∨ p.2 = none) :
    (owes (tile d i) O (insert (sem, none) W') : sProp 𝕄) ⊢ owing d i O W := by
  unfold owing
  iintro H
  iexists _
  isplitr
  swap
  · iexact H
  ipureintro
  intro p hp
  rcases Finset.mem_insert.mp hp with rfl | hp
  · exact Or.inr rfl
  · exact h p hp

/-- The block sent two steps ago has left, if there was one. -/
theorem drain {y : Buf (Elt F) (yLoc d)} {a : Memref sig .scVector .vmem S22016 .f32} {sem : DmaSem sig} {k : ℕ}
    {O : CellTallies nD τ sig (HIx 1)} {W : Waits sig (HIx 1)} (hO : ∀ g, O g none = 0) {c : Prop} [Decidable c] (hc : c ↔ 2 ≤ k)
    {off : c → Fin 3 → ℕ} {inb : ∀ h, ∀ a, off h a + S1x1x22016.size a ≤ S40x16x22016.size a}
    {h1 : a.view.WordExact} {h2 : ∀ h, (outM (off h) (inb h)).view.WordExact}
    {α : Type} {Q : α → sProp 𝕄} {kk : Unit → Prog (TpuEff nD τ sig (Elt F) Λ₀ (.scVector (cV i) (jV i))) α} :
    iprop(levAts (K (F := F)).L (K (F := F)).lev ∗ outSlot d i y a sem k ∗ past d i y (k - 2) ∗ owing d i O W)
      ⊢ iprop((iprop((∃ r, Has d i a r) ∗ semVal (tile d i, .dma sem) 0 ∗ past d i y (k + 1 - 2) ∗ owing d i O W)
          -∗ wp frame (wpE (defs₀ (F := F)) 𝒱₀ (tile d i) none) Set.univ (kk ⟨⟩) Q)
        -∗ wp frame (wpE (defs₀ (F := F)) 𝒱₀ (tile d i) none) Set.univ
          ((if h : c then .op (.waitDma2 sem a (outM (off h) (inb h)) h1 (h2 h)) (fun _ => .ret ⟨⟩) else .ret ⟨⟩) >>= kk) Q) := by
  refine wp_branch (fun h => ?_) (fun h => ?_)
  · obtain ⟨k, rfl⟩ : ∃ k', k = k' + 2 := ⟨k - 2, by have := hc.mp h; omega⟩
    rw [outSlot_ge, show k + 2 + 1 - 2 = k + 1 by omega, show k + 2 - 2 = k by omega, past_step]
    iintro ⟨Hlv, Hg, Hp, HO⟩
    ihave HO := owing_open $$ HO
    icases HO with ⟨%W', %hW', HO⟩
    iapply (gone (k := fun _ => .ret ⟨⟩) hO) $$ [Hlv Hg HO]
    · isplitl [Hlv]; · iexact Hlv
      isplitl [Hg]; · iexact Hg
      iexact HO
    iintro ⟨Hy, Ha, Hs, HO⟩
    rw [wp_ret]; imodintro
    isplitl [Ha]; · iexact Ha
    isplitl [Hs]; · iexact Hs
    isplitl [Hy Hp]
    · isplitl [Hy]; · iexact Hy
      iexact Hp
    iapply (owing_insert _ hW'); iexact HO
  · have hk : k < 2 := by have := mt hc.mpr h; omega
    rw [outSlot_lt hk, show k + 1 - 2 = 0 by omega, show k - 2 = 0 by omega]
    iintro ⟨-, ⟨Ha, Hs⟩, Hp, HO⟩
    rw [wp_ret]; imodintro
    isplitl [Ha]; · iexact Ha
    isplitl [Hs]; · iexact Hs
    isplitl [Hp]; · iexact Hp
    iexact HO

/-- The chunk two steps on is asked for, if there is one. -/
theorem ask {x : Buf (Elt F) (xLoc d)} {q : PosShare TreeShare} {a : Memref sig .scVector .vmem S86x256 .f32} {sem : DmaSem sig} {k : ℕ}
    {c : Prop} [Decidable c] (hc : c ↔ k < 20) {off : c → Fin 3 → ℕ} {inb : ∀ h, ∀ a, off h a + S1x86x256.size a ≤ S144x86x4096.size a}
    (hoff : ∀ h, off h = inOff (taskNo i k))
    {h1 : ∀ h, (inM (off h) (inb h)).view.WordExact} {h2 : a.view.WordExact} {h3 : DmaTarget.Typed (nD := nD) .hbm (.dma sem) (.here (p := Proc.scVector (cV i) (jV i)) a)}
    {α : Type} {Q : α → sProp 𝕄} {kk : Unit → Prog (TpuEff nD τ sig (Elt F) Λ₀ (.scVector (cV i) (jV i))) α} :
    iprop((∃ r, Has d i a r) ∗ (xLoc d ↦[Finset.univ]{q} x) ∗ semVal (tile d i, .dma sem) 0)
      ⊢ iprop((inSlot d i x q a sem k -∗ wp frame (wpE (defs₀ (F := F)) 𝒱₀ (tile d i) none) Set.univ (kk ⟨⟩) Q)
        -∗ wp frame (wpE (defs₀ (F := F)) 𝒱₀ (tile d i) none) Set.univ
          ((if h : c then .op (.enqueueDma (inM (off h) (inb h)) (.here a) (.dma sem) (h1 h) h2 h3) (fun _ => .ret ⟨⟩) else .ret ⟨⟩) >>= kk) Q) := by
  refine wp_branch (fun h => ?_) (fun h => ?_)
  · have hk := hc.mp h
    rw [inSlot_lt hk]
    iintro H
    iapply (come (k := fun _ => .ret ⟨⟩) (taskNo_lt i hk) (hoff h)) $$ H
    iintro H
    rw [wp_ret]; imodintro
    iexact H
  · have hk : ¬ k < 20 := mt hc.mpr h
    rw [inSlot_ge hk]
    iintro H
    rw [wp_ret]; imodintro
    iexact H

/-- The step: from a program `L₁; L₂` that decodes one scratch into the other. -/
theorem step {x : Buf (Elt F) (xLoc d)} {q : PosShare TreeShare} {y0 y : Buf (Elt F) (yLoc d)}
    {a : Memref sig .scVector .vmem S86x256 .f32} {b : Memref sig .scVector .vmem S22016 .f32} {semI semO : DmaSem sig} {k : ℕ} (hk : k < 20)
    (hy : ∀ p, y (outIdx (taskNo i k) p) = decodeChunk (104 + taskNo i k / 16) (taskNo i k % 16) (chunkOf x (taskNo i k)) p)
    {O : CellTallies nD τ sig (HIx 1)} {W : Waits sig (HIx 1)} (hO : ∀ g, O g none = 0)
    {mi : Memref sig .scVector .hbm S86x256 .f32} {g1 : mi.view.WordExact} {g2 : a.view.WordExact}
    {c : Prop} [Decidable c] (hc : c ↔ 2 ≤ k) {off : c → Fin 3 → ℕ} {inb : ∀ h, ∀ a, off h a + S1x1x22016.size a ≤ S40x16x22016.size a}
    {h1 : b.view.WordExact} {h2 : ∀ h, (outM (off h) (inb h)).view.WordExact}
    {c' : Prop} [Decidable c'] (hc' : c' ↔ k + 2 < 20) {off' : c' → Fin 3 → ℕ} {inb' : ∀ h, ∀ a, off' h a + S1x86x256.size a ≤ S144x86x4096.size a}
    (hoff' : ∀ h, off' h = inOff (taskNo i (k + 2)))
    {h1' : ∀ h, (inM (off' h) (inb' h)).view.WordExact} {h3' : DmaTarget.Typed (nD := nD) .hbm (.dma semI) (.here (p := Proc.scVector (cV i) (jV i)) a)}
    {offo : Fin 3 → ℕ} {inbo : ∀ a, offo a + S1x1x22016.size a ≤ S40x16x22016.size a} (hoffo : offo = outOff (taskNo i k))
    {h2o : (outM offo inbo).view.WordExact} {h3o : DmaTarget.Typed (nD := nD) .vmem (.dma semO) (.here (p := Proc.scVector (cV i) (jV i)) (outM offo inbo))}
    {α : Type} {Q : α → sProp 𝕄} {L₁ L₂ : Prog (TpuEff nD τ sig (Elt F) Λ₀ (.scVector (cV i) (jV i))) Unit}
    (hL : ∀ kk : Unit → Prog (TpuEff nD τ sig (Elt F) Λ₀ (.scVector (cV i) (jV i))) α,
      iprop(Has d i a (chunkOf x (taskNo i k)) ∗ ∃ r, Has d i b r)
        ⊢ iprop((iprop(Has d i a (chunkOf x (taskNo i k)) ∗ Has d i b (decodeChunk (104 + taskNo i k / 16) (taskNo i k % 16) (chunkOf x (taskNo i k))))
            -∗ wp frame (wpE (defs₀ (F := F)) 𝒱₀ (tile d i) none) Set.univ (kk ⟨⟩) Q)
          -∗ wp frame (wpE (defs₀ (F := F)) 𝒱₀ (tile d i) none) Set.univ (L₁ >>= fun _ => L₂ >>= kk) Q))
    {kk : Unit → Prog (TpuEff nD τ sig (Elt F) Λ₀ (.scVector (cV i) (jV i))) α} :
    iprop(levAts (K (F := F)).L (K (F := F)).lev ∗ levAts (K (F := F)).L (K (F := F)).lev
        ∗ inSlot d i x q a semI k ∗ outSlot d i y b semO k ∗ pend d i y0 k ∗ past d i y (k - 2) ∗ owing d i O W)
      ⊢ iprop((iprop(inSlot d i x q a semI (k + 2) ∗ outSlot d i y b semO (k + 2) ∗ pend d i y0 (k + 1) ∗ past d i y (k + 1 - 2) ∗ owing d i O W)
          -∗ wp frame (wpE (defs₀ (F := F)) 𝒱₀ (tile d i) none) Set.univ (kk ⟨⟩) Q)
        -∗ wp frame (wpE (defs₀ (F := F)) 𝒱₀ (tile d i) none) Set.univ
          (.op (.waitDma2 semI mi a g1 g2) fun _ =>
            (if h : c then .op (.waitDma2 semO b (outM (off h) (inb h)) h1 (h2 h)) (fun _ => .ret ⟨⟩) else .ret ⟨⟩) >>= fun _ : Unit =>
            L₁ >>= fun _ => L₂ >>= fun _ =>
            .op (.enqueueDma b (.here (outM offo inbo)) (.dma semO) h1 h2o h3o) fun _ =>
            (if h : c' then .op (.enqueueDma (inM (off' h) (inb' h)) (.here a) (.dma semI) (h1' h) g2 h3') (fun _ => .ret ⟨⟩) else .ret ⟨⟩) >>= kk) Q) := by
  rw [inSlot_lt hk, pend_step y0 hk, outSlot_ge]
  iintro ⟨Hlv, Hlv', Hin, Hout, ⟨Hy, Hpend⟩, Hpast, HO⟩ Hk
  ihave HO := owing_open $$ HO
  icases HO with ⟨%W', %hW', HO⟩
  iapply (came (x := x) (q := q) (T := taskNo i k) hO) $$ [Hlv Hin HO]
  · isplitl [Hlv]; · iexact Hlv
    isplitl [Hin]; · iexact Hin
    iexact HO
  iintro ⟨Ha, Hx, Hs, HO⟩
  ihave HO := (owing_insert _ hW') $$ HO
  iapply (drain (y := y) hO hc) $$ [Hlv' Hout Hpast HO]
  · isplitl [Hlv']; · iexact Hlv'
    isplitl [Hout]; · iexact Hout
    isplitl [Hpast]; · iexact Hpast
    iexact HO
  iintro ⟨Hb, Hs', Hpast, HO⟩
  iapply (hL _) $$ [Ha Hb]
  · isplitl [Ha]; · iexact Ha
    iexact Hb
  iintro ⟨Ha, Hb⟩
  iapply (goOut (y := y) (y0 := y0) (taskNo_lt i hk) hy hoffo) $$ [Hb Hy Hs']
  · isplitl [Hb]; · iexact Hb
    isplitl [Hy]; · iexact Hy
    iexact Hs'
  iintro Hout
  iapply (ask (x := x) (q := q) (k := k + 2) hc' hoff') $$ [Ha Hx Hs]
  · isplitl [Ha]; · iexists _; iexact Ha
    isplitl [Hx]; · iexact Hx
    iexact Hs
  iintro Hin
  iapply Hk
  isplitl [Hin]; · iexact Hin
  isplitl [Hout]; · iexact Hout
  isplitl [Hpend]; · iexact Hpend
  isplitl [Hpast]; · iexact Hpast
  iexact HO

/-- The step at the end of a program. -/
theorem step_end {x : Buf (Elt F) (xLoc d)} {q : PosShare TreeShare} {y0 y : Buf (Elt F) (yLoc d)}
    {a : Memref sig .scVector .vmem S86x256 .f32} {b : Memref sig .scVector .vmem S22016 .f32} {semI semO : DmaSem sig} {k : ℕ} (hk : k < 20)
    (hy : ∀ p, y (outIdx (taskNo i k) p) = decodeChunk (104 + taskNo i k / 16) (taskNo i k % 16) (chunkOf x (taskNo i k)) p)
    {O : CellTallies nD τ sig (HIx 1)} {W : Waits sig (HIx 1)} (hO : ∀ g, O g none = 0)
    {mi : Memref sig .scVector .hbm S86x256 .f32} {g1 : mi.view.WordExact} {g2 : a.view.WordExact}
    {c : Prop} [Decidable c] (hc : c ↔ 2 ≤ k) {off : c → Fin 3 → ℕ} {inb : ∀ h, ∀ a, off h a + S1x1x22016.size a ≤ S40x16x22016.size a}
    {h1 : b.view.WordExact} {h2 : ∀ h, (outM (off h) (inb h)).view.WordExact}
    {c' : Prop} [Decidable c'] (hc' : c' ↔ k + 2 < 20) {off' : c' → Fin 3 → ℕ} {inb' : ∀ h, ∀ a, off' h a + S1x86x256.size a ≤ S144x86x4096.size a}
    (hoff' : ∀ h, off' h = inOff (taskNo i (k + 2)))
    {h1' : ∀ h, (inM (off' h) (inb' h)).view.WordExact} {h3' : DmaTarget.Typed (nD := nD) .hbm (.dma semI) (.here (p := Proc.scVector (cV i) (jV i)) a)}
    {offo : Fin 3 → ℕ} {inbo : ∀ a, offo a + S1x1x22016.size a ≤ S40x16x22016.size a} (hoffo : offo = outOff (taskNo i k))
    {h2o : (outM offo inbo).view.WordExact} {h3o : DmaTarget.Typed (nD := nD) .vmem (.dma semO) (.here (p := Proc.scVector (cV i) (jV i)) (outM offo inbo))}
    {Q : Unit → sProp 𝕄} {L₁ L₂ : Prog (TpuEff nD τ sig (Elt F) Λ₀ (.scVector (cV i) (jV i))) Unit}
    (hL : ∀ kk : Unit → Prog (TpuEff nD τ sig (Elt F) Λ₀ (.scVector (cV i) (jV i))) Unit,
      iprop(Has d i a (chunkOf x (taskNo i k)) ∗ ∃ r, Has d i b r)
        ⊢ iprop((iprop(Has d i a (chunkOf x (taskNo i k)) ∗ Has d i b (decodeChunk (104 + taskNo i k / 16) (taskNo i k % 16) (chunkOf x (taskNo i k))))
            -∗ wp frame (wpE (defs₀ (F := F)) 𝒱₀ (tile d i) none) Set.univ (kk ⟨⟩) Q)
          -∗ wp frame (wpE (defs₀ (F := F)) 𝒱₀ (tile d i) none) Set.univ (L₁ >>= fun _ => L₂ >>= kk) Q)) :
    iprop(levAts (K (F := F)).L (K (F := F)).lev ∗ levAts (K (F := F)).L (K (F := F)).lev
        ∗ inSlot d i x q a semI k ∗ outSlot d i y b semO k ∗ pend d i y0 k ∗ past d i y (k - 2) ∗ owing d i O W)
      ⊢ iprop((iprop(inSlot d i x q a semI (k + 2) ∗ outSlot d i y b semO (k + 2) ∗ pend d i y0 (k + 1) ∗ past d i y (k + 1 - 2) ∗ owing d i O W)
          -∗ Q ⟨⟩)
        -∗ wp frame (wpE (defs₀ (F := F)) 𝒱₀ (tile d i) none) Set.univ
          (.op (.waitDma2 semI mi a g1 g2) fun _ =>
            (if h : c then .op (.waitDma2 semO b (outM (off h) (inb h)) h1 (h2 h)) (fun _ => .ret ⟨⟩) else .ret ⟨⟩) >>= fun _ : Unit =>
            L₁ >>= fun _ => L₂ >>= fun _ =>
            .op (.enqueueDma b (.here (outM offo inbo)) (.dma semO) h1 h2o h3o) fun _ =>
            (if h : c' then .op (.enqueueDma (inM (off' h) (inb' h)) (.here a) (.dma semI) (h1' h) g2 h3') (fun _ => .ret ⟨⟩) else .ret ⟨⟩)) Q) := by
  have e : ∀ p : Prog (TpuEff nD τ sig (Elt F) Λ₀ (.scVector (cV i) (jV i))) Unit, p = p >>= fun _ => .ret ⟨⟩ := fun p => (bind_pure p).symm
  rw [e (dite c' _ _)]
  iintro H Hk
  iapply (step hk hy hO hc hc' hoff' hoffo hL) $$ H
  iintro H
  rw [wp_ret]; imodintro
  iapply Hk
  iexact H

end

end Cert.Proof.Run

end
-- ==== Proof.Tile.lean ====
/-
  The whole of one tile: the first two chunks asked for, ten trips of two steps, the last two blocks waited for.
-/
module

public import proofs.«01_k».proof.Proof.Steps

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The second pair's loops are the first's -/

section
variable {i : grid1.Coords}
  {arg2 : Memref sig .scVector .hbm S144x86x4096 .f32} {harg2 : arg2.IsWhole} {arg3 : Memref sig .scVector .hbm S40x16x22016 .f32} {harg3 : arg3.IsWhole}
  {arg4 : Memref sig .scVector .vmem S86x256 .f32} {harg4 : arg4.IsWhole} {arg5 : Memref sig .scVector .vmem S86x256 .f32} {harg5 : arg5.IsWhole}
  {arg6 : Memref sig .scVector .vmem S22016 .f32} {harg6 : arg6.IsWhole} {arg7 : Memref sig .scVector .vmem S22016 .f32} {harg7 : arg7.IsWhole}
  {arg8 arg9 arg10 arg11 : DmaSems sig S_} {v1 v138 v296 v327 v377 : BitVec 32} {v2 : IVec S16 32} {v3 : FVec F S16 .f32} {k1_t1 : Fin k1_t1_loop.trips}
  {v368 v372 v375 : F .f32}

set_option maxRecDepth 65536 in
theorem loop4_eq : Scf.Loop.for k1_t4_loop k1_t4_ok ⟨⟩ (k1_t4_body i arg2 harg2 arg3 harg3 arg4 harg4 arg5 harg5 arg6 harg6 arg7 harg7 arg8 arg9 arg10 arg11 v1 v2 v3 k1_t1 v138 v296 v327 v368 v372 v375 v377)
    = Scf.Loop.for k1_t2_loop k1_t2_ok ⟨⟩ (k1_t2_body i arg2 harg2 arg3 harg3 arg5 harg5 arg4 harg4 arg7 harg7 arg6 harg6 arg8 arg9 arg10 arg11 v1 v2 v3 k1_t1 v138 v296 v327 v368 v372 v375) := rfl
set_option maxRecDepth 65536 in
theorem loop5_eq : Scf.Loop.for k1_t5_loop k1_t5_ok ⟨⟩ (k1_t5_body i arg2 harg2 arg3 harg3 arg4 harg4 arg5 harg5 arg6 harg6 arg7 harg7 arg8 arg9 arg10 arg11 v1 v2 v3 k1_t1 v138 v296 v327 v368 v372 v375 v377)
    = Scf.Loop.for k1_t3_loop k1_t3_ok ⟨⟩ (k1_t3_body i arg2 harg2 arg3 harg3 arg5 harg5 arg4 harg4 arg7 harg7 arg6 harg6 arg8 arg9 arg10 arg11 v1 v2 v3 k1_t1 v138 v296 v327 v368 v372 v375) := rfl
end

/-! ## A trip -/

section

variable {d : Dev nD} {i : grid1.Coords}
  (x : Buf (Elt F) (xLoc d)) (y0 y : Buf (Elt F) (yLoc d)) (q0 q1 : PosShare TreeShare)
  (arg4 : Memref sig .scVector .vmem S86x256 .f32) (harg4 : arg4.IsWhole) (arg5 : Memref sig .scVector .vmem S86x256 .f32) (harg5 : arg5.IsWhole)
  (arg6 : Memref sig .scVector .vmem S22016 .f32) (harg6 : arg6.IsWhole) (arg7 : Memref sig .scVector .vmem S22016 .f32) (harg7 : arg7.IsWhole)
  (arg8 arg9 arg10 arg11 : DmaSems sig S_) (O : CellTallies nD τ sig (HIx 1)) (W : Waits sig (HIx 1))

/-- Before trip `n`. -/
def inv (d : Dev nD) (i : grid1.Coords) (x : Buf (Elt F) (xLoc d)) (y0 y : Buf (Elt F) (yLoc d)) (n : ℕ) (_ : PUnit) : sProp 𝕄 :=
  iprop(levAts (K (F := F)).L (K (F := F)).lev
    ∗ inSlot d i x q0 arg4 arg8.sem (2 * n) ∗ outSlot d i y arg6 arg10.sem (2 * n) ∗ inSlot d i x q1 arg5 arg9.sem (2 * n + 1) ∗ outSlot d i y arg7 arg11.sem (2 * n + 1)
    ∗ pend d i y0 (2 * n) ∗ past d i y (2 * n - 2) ∗ owing d i O W)

/-- The constants of the step's chunk. -/
theorem consts (k : ℕ) (hk : k < 20) {w : BitVec 32} (hw : w = BitVec.ofNat 32 (taskNo i k)) :
    IntOp.muli (fmodW .scalar w 16#32) 256#32 = BitVec.ofNat 32 (256 * (taskNo i k % 16))
    ∧ k1_pay30 (F := F) (fdivW .scalar (fmodW .scalar (IntOp.addi 104#32 (fdivW .scalar w 16#32)) 18#32) 6#32) = awOf ((104 + taskNo i k / 16) % 18 / 6)
    ∧ k1_pay31 (F := F) (fdivW .scalar (fmodW .scalar (IntOp.addi 104#32 (fdivW .scalar w 16#32)) 18#32) 6#32) = ahOf ((104 + taskNo i k / 16) % 18 / 6)
    ∧ k1_pay21 (F := F) (fmodW .scalar (fmodW .scalar (IntOp.addi 104#32 (fdivW .scalar w 16#32)) 18#32) 6#32) = angOf ((104 + taskNo i k / 16) % 18 % 6) := by
  subst hw
  have hT := taskNo_lt i hk
  refine ⟨chunkW hT, ?_, ?_, ?_⟩
  · rw [shapeW hT, pay30_eq _ (by omega)]
  · rw [shapeW hT, pay31_eq _ (by omega)]
  · rw [angleW hT]; rfl

/-- The word of the chunk at step `2 t + r`. -/
theorem stepW (t r : ℕ) : IntOp.addi (widW i) (IntOp.muli (IntOp.addi (pairW t) (BitVec.ofNat 32 r)) 32#32) = BitVec.ofNat 32 (taskNo i (2 * t + r)) := by
  rw [pairW_eq, addi_small, taskW]

variable {arg2 : Memref sig .scVector .hbm S144x86x4096 .f32} {harg2 : arg2.IsWhole} {arg3 : Memref sig .scVector .hbm S40x16x22016 .f32} {harg3 : arg3.IsWhole}

/-- The words of the trip's first step: the chunk's first cell and the slab's constants. -/
theorem first_words (t : Fin k1_t1_loop.trips) : ∃ v138 v139 v172 v173 v197 v207,
    k1_part7 (F := F) i arg2 harg2 arg3 harg3 arg4 harg4 arg5 harg5 arg6 harg6 arg7 harg7 arg8 arg9 arg10 arg11 (widW i) 0#32 1#32 t
      = .ret ⟨v138, v139, BitVec.ofNat 32 (256 * (taskNo i (2 * t.val + 0) % 16)), v172, v173⟩
    ∧ k1_part8 (F := F) i arg2 harg2 arg3 harg3 arg4 harg4 arg5 harg5 arg6 harg6 arg7 harg7 arg8 arg9 arg10 arg11 v172 v173 = .ret ⟨v197, v207, awOf ((104 + taskNo i (2 * t.val + 0) / 16) % 18 / 6), 0#32⟩
    ∧ k1_part9 (F := F) i arg2 harg2 arg3 harg3 arg4 harg4 arg5 harg5 arg6 harg6 arg7 harg7 arg8 arg9 arg10 arg11 (widW i) v139 v197 v207 0#32
      = .ret ⟨ahOf ((104 + taskNo i (2 * t.val + 0) / 16) % 18 / 6), angOf ((104 + taskNo i (2 * t.val + 0) / 16) % 18 % 6)⟩
    ∧ v138 = pairW t.val := by
  have ht : t.val < 10 := t.isLt
  obtain ⟨a1, a2, a3, a4⟩ := consts (F := F) (i := i) (2 * t.val + 0) (by omega) (stepW t.val 0)
  rw [← a1, ← a2, ← a3, ← a4]
  exact ⟨_, _, _, _, _, _, rfl, rfl, rfl, rfl⟩

/-- The number of the slab and the place in it, of the chunk whose word is `w`, as the trip's second step goes on from. -/
theorem second_words {k : ℕ} (hk : k < 20) {w : BitVec 32} (hw : w = BitVec.ofNat 32 (taskNo i k)) (v1 v296 : BitVec 32) : ∃ v354 v356 v357 v358 v377,
    k1_part12 (F := F) i arg2 harg2 arg3 harg3 arg4 harg4 arg5 harg5 arg6 harg6 arg7 harg7 arg8 arg9 arg10 arg11 (IntOp.addi 104#32 (fdivW .scalar w 16#32)) (Scalar.select (Scalar.cmpi .eq 16#32 0#32) 1#32 16#32)
        (Scalar.remsi w (Scalar.select (Scalar.cmpi .eq 16#32 0#32) 1#32 16#32))
      = .ret ⟨BitVec.ofNat 32 (256 * (taskNo i k % 16)), v354, v356, v357, v358⟩
    ∧ k1_part13 (F := F) i arg2 harg2 arg3 harg3 arg4 harg4 arg5 harg5 arg6 harg6 arg7 harg7 arg8 arg9 arg10 arg11 v1 v296 v354 v356 v357 v358
      = .ret ⟨awOf ((104 + taskNo i k / 16) % 18 / 6), ahOf ((104 + taskNo i k / 16) % 18 / 6), angOf ((104 + taskNo i k / 16) % 18 % 6), v377⟩ := by
  obtain ⟨a1, a2, a3, a4⟩ := consts (F := F) (i := i) k hk hw
  rw [← a1, ← a2, ← a3, ← a4]
  exact ⟨_, _, _, _, _, rfl, rfl⟩

/-- The first step's sending and asking, and the words it leaves for the second. -/
theorem send_words (t : Fin k1_t1_loop.trips) (v1 v138 v139 v279 v280 : BitVec 32) (v281 : BitVec 1) :
    k1_part11 (F := F) i arg2 harg2 arg3 harg3 arg4 harg4 arg5 harg5 arg6 harg6 arg7 harg7 arg8 arg9 arg10 arg11 v1 t v138 v139 v279 v280 v281
      = .op (.enqueueDma arg6 (.here ((arg3.slice (Rect.unit (s := S40x16x22016) (k1_off10 i t 0#32) S1x1x22016.size (k1_off10_inb i t 0)) (fun _ => rfl)).squeeze
          S22016 squeezes_S1x1x22016_S22016)) (.dma arg10.sem) harg6.wordExact ((View.wordExact_bits rfl).reshape _ _) ⟨Or.inl rfl, trivial⟩) fun _ =>
        (if h : k1_cond2 t = 1#1 then
          .op (.enqueueDma ((arg2.slice (Rect.unit (s := S144x86x4096) (k1_off11 i t) S1x86x256.size (k1_off11_inb i t h)) (fun _ => rfl)).squeeze
            S86x256 squeezes_S1x86x256_S86x256) (.here arg4) (.dma arg8.sem) ((View.wordExact_bits rfl).reshape _ _) harg4.wordExact ⟨Or.inl rfl, trivial⟩)
            (fun _ => .ret ⟨⟩)
        else .ret ⟨⟩) >>= fun _ : Unit =>
        .ret ⟨IntOp.addi v138 1#32, IntOp.addi 104#32 (fdivW .scalar (IntOp.addi v1 (IntOp.muli (IntOp.addi v138 1#32) 32#32)) 16#32),
          Scalar.select (Scalar.cmpi .eq 16#32 0#32) 1#32 16#32,
          Scalar.remsi (IntOp.addi v1 (IntOp.muli (IntOp.addi v138 1#32) 32#32)) (Scalar.select (Scalar.cmpi .eq 16#32 0#32) 1#32 16#32)⟩ := by
  rw [k1_part11_eq_skeleton]
  unfold k1_part11_skel
  by_cases h : k1_cond2 t = 1#1
  · simp only [Prog.lift, Prog.bind_op, Prog.bind_ret, Prog.pure_eq_ret, dif_pos h]; rfl
  · simp only [Prog.lift, Prog.bind_op, Prog.bind_ret, Prog.pure_eq_ret, dif_neg h]; rfl

/-- The first step's waits and its loops. -/
theorem decode_first (t : Fin k1_t1_loop.trips) (v1 v138 v139 v170 : BitVec 32) (v2 : IVec S16 32) (v3 : FVec F S16 .f32) (v211 v215 v218 : F .f32) :
    k1_part10 (F := F) i arg2 harg2 arg3 harg3 arg4 harg4 arg5 harg5 arg6 harg6 arg7 harg7 arg8 arg9 arg10 arg11 v1 v2 v3 t v138 v139 v170 v211 v215 v218
      = .op (.waitDma2 arg8.sem ((arg2.slice (Rect.unit (s := S144x86x4096) (k1_off2 i t 0#32) S1x86x256.size (k1_off2_inb i t 0)) (fun _ => rfl)).squeeze
          S86x256 squeezes_S1x86x256_S86x256) arg4 ((View.wordExact_bits rfl).reshape _ _) harg4.wordExact) fun _ =>
        (if h : k1_cond1 t = 1#1 then
          .op (.waitDma2 arg10.sem arg6 ((arg3.slice (Rect.unit (s := S40x16x22016) (k1_off3 i t) S1x1x22016.size (k1_off3_inb i t h)) (fun _ => rfl)).squeeze
            S22016 squeezes_S1x1x22016_S22016) harg6.wordExact ((View.wordExact_bits rfl).reshape _ _)) (fun _ => .ret ⟨⟩)
        else .ret ⟨⟩) >>= fun _ : Unit =>
        Scf.Loop.for k1_t2_loop k1_t2_ok ⟨⟩ (k1_t2_body i arg2 harg2 arg3 harg3 arg4 harg4 arg5 harg5 arg6 harg6 arg7 harg7 arg8 arg9 arg10 arg11 v1 v2 v3 t v138 v139 v170 v211 v215 v218) >>= fun _ : Unit =>
        Scf.Loop.for k1_t3_loop k1_t3_ok ⟨⟩ (k1_t3_body i arg2 harg2 arg3 harg3 arg4 harg4 arg5 harg5 arg6 harg6 arg7 harg7 arg8 arg9 arg10 arg11 v1 v2 v3 t v138 v139 v170 v211 v215 v218) >>= fun _ : Unit =>
        .ret ⟨Scalar.select (Scalar.cmpi .eq 16#32 0#32) 1#32 16#32, Scalar.remsi (Scalar.addi v1 (Scalar.muli v139 32#32)) (Scalar.select (Scalar.cmpi .eq 16#32 0#32) 1#32 16#32),
          Scalar.cmpi .ne (Scalar.remsi (Scalar.addi v1 (Scalar.muli v139 32#32)) (Scalar.select (Scalar.cmpi .eq 16#32 0#32) 1#32 16#32)) 0#32⟩ := by
  rw [k1_part10_eq_skeleton]
  unfold k1_part10_skel
  by_cases h : k1_cond1 t = 1#1
  · simp only [Prog.lift, Prog.bind_op, Prog.bind_ret, Prog.pure_eq_ret, dif_pos h]
  · simp only [Prog.lift, Prog.bind_op, Prog.bind_ret, Prog.pure_eq_ret, dif_neg h]

/-- The second step's. -/
theorem decode_second (t : Fin k1_t1_loop.trips) (v1 v138 v296 v327 v377 : BitVec 32) (v2 : IVec S16 32) (v3 : FVec F S16 .f32) (v368 v372 v375 : F .f32) :
    k1_part14 (F := F) i arg2 harg2 arg3 harg3 arg4 harg4 arg5 harg5 arg6 harg6 arg7 harg7 arg8 arg9 arg10 arg11 v1 v2 v3 t v138 v296 v327 v368 v372 v375 v377
      = .op (.waitDma2 arg9.sem ((arg2.slice (Rect.unit (s := S144x86x4096) (k1_off2 i t 1#32) S1x86x256.size (k1_off2_inb i t 1)) (fun _ => rfl)).squeeze
          S86x256 squeezes_S1x86x256_S86x256) arg5 ((View.wordExact_bits rfl).reshape _ _) harg5.wordExact) fun _ =>
        (if h : k1_cond3 t = 1#1 then
          .op (.waitDma2 arg11.sem arg7 ((arg3.slice (Rect.unit (s := S40x16x22016) (k1_off12 i t) S1x1x22016.size (k1_off12_inb i t h)) (fun _ => rfl)).squeeze
            S22016 squeezes_S1x1x22016_S22016) harg7.wordExact ((View.wordExact_bits rfl).reshape _ _)) (fun _ => .ret ⟨⟩)
        else .ret ⟨⟩) >>= fun _ : Unit =>
        Scf.Loop.for k1_t4_loop k1_t4_ok ⟨⟩ (k1_t4_body i arg2 harg2 arg3 harg3 arg4 harg4 arg5 harg5 arg6 harg6 arg7 harg7 arg8 arg9 arg10 arg11 v1 v2 v3 t v138 v296 v327 v368 v372 v375 v377) >>= fun _ : Unit =>
        Scf.Loop.for k1_t5_loop k1_t5_ok ⟨⟩ (k1_t5_body i arg2 harg2 arg3 harg3 arg4 harg4 arg5 harg5 arg6 harg6 arg7 harg7 arg8 arg9 arg10 arg11 v1 v2 v3 t v138 v296 v327 v368 v372 v375 v377) >>= fun _ : Unit =>
        .ret ⟨(Scalar.addi v1 (Scalar.muli v296 32#32)), 16#32, Scalar.divsi (Scalar.addi v1 (Scalar.muli v296 32#32)) 16#32,
          Scalar.subi (Scalar.extui (Scalar.cmpi .sgt (Scalar.addi v1 (Scalar.muli v296 32#32)) 0#32)) (Scalar.extui (Scalar.cmpi .slt (Scalar.addi v1 (Scalar.muli v296 32#32)) 0#32)),
          Scalar.extui (Scalar.cmpi .sgt 16#32 0#32), Scalar.cmpi .slt 16#32 0#32⟩ := by
  rw [k1_part14_eq_skeleton]
  unfold k1_part14_skel
  by_cases h : k1_cond3 t = 1#1
  · simp only [Prog.lift, Prog.bind_op, Prog.bind_ret, Prog.pure_eq_ret, dif_pos h]
  · simp only [Prog.lift, Prog.bind_op, Prog.bind_ret, Prog.pure_eq_ret, dif_neg h]

set_option maxHeartbeats 400000 in
theorem trip (h6 : Plain (F := F) arg6) (h7 : Plain (F := F) arg7) (hO : ∀ g, O g none = 0)
    (hy : ∀ k < 20, ∀ p, y (outIdx (taskNo i k) p) = decodeChunk (104 + taskNo i k / 16) (taskNo i k % 16) (chunkOf x (taskNo i k)) p)
    (t : Fin k1_t1_loop.trips) (u : Unit) :
    inv q0 q1 arg4 arg5 arg6 arg7 arg8 arg9 arg10 arg11 O W d i x y0 y t.val u
      ⊢ wp frame (wpE (defs₀ (F := F)) 𝒱₀ (tile d i) none) Set.univ
          (k1_t1_body i xm (Memref.isWhole_whole _) ym (Memref.isWhole_whole _) arg4 harg4 arg5 harg5 arg6 harg6 arg7 harg7 arg8 arg9 arg10 arg11
            (widW i) lanes k1_pay41 t u)
          (inv q0 q1 arg4 arg5 arg6 arg7 arg8 arg9 arg10 arg11 O W d i x y0 y (t.val + 1)) := by
  have ht : t.val < 10 := t.isLt
  obtain ⟨v138, v139, v172, v173, v197, v207, e7, e8, e9, hv138⟩ := first_words (F := F) (i := i) (arg2 := xm) (harg2 := Memref.isWhole_whole _)
    (arg3 := ym) (harg3 := Memref.isWhole_whole _) (harg4 := harg4) (harg5 := harg5) (harg6 := harg6) (harg7 := harg7) (arg8 := arg8) (arg9 := arg9) (arg10 := arg10)
    (arg11 := arg11) (arg4 := arg4) (arg5 := arg5) (arg6 := arg6) (arg7 := arg7) (t := t)
  have hw : IntOp.addi (widW i) (IntOp.muli (IntOp.addi v138 1#32) 32#32) = BitVec.ofNat 32 (taskNo i (2 * t.val + 1)) := hv138 ▸ stepW t.val 1
  obtain ⟨v354, v356, v357, v358, v377, e12, e13⟩ := second_words (F := F) (i := i) (arg2 := xm) (harg2 := Memref.isWhole_whole _)
    (arg3 := ym) (harg3 := Memref.isWhole_whole _) (harg4 := harg4) (harg5 := harg5) (harg6 := harg6) (harg7 := harg7) (arg8 := arg8) (arg9 := arg9) (arg10 := arg10)
    (arg11 := arg11) (arg4 := arg4) (arg5 := arg5) (arg6 := arg6) (arg7 := arg7) (k := 2 * t.val + 1) (hk := by omega) (hw := hw) (v1 := widW i) (v296 := IntOp.addi v138 1#32)
  unfold k1_t1_body
  simp only [e7, Prog.bind_ret, e8, e9, decode_first, send_words, decode_second, Prog.lift, Prog.bind_op, Prog.pure_eq_ret, Prog.bind_assoc, e12, e13, loop4_eq, loop5_eq]
  unfold inv
  iintro ⟨#Hlv, Hi0, Ho0, Hi1, Ho1, Hpend, Hpast, HO⟩
  iapply (step (k := 2 * t.val + 0) (x := x) (q := q0) (y0 := y0) (y := y) (by omega) (hy _ (by omega)) hO (by rw [cond1_iff]; omega) (by rw [cond2_iff]; omega)
    (fun h => (off11_eq i t).trans (inAt_eq (taskNo_lt i (by have := (cond2_iff t).mp h; omega)))) ((off10_eq i t 0).trans (outAt_eq (taskNo_lt i (by omega))))
    (fun kk => loops (Nat.mod_lt _ (by decide)) h6 rfl rfl rfl rfl)) $$ [Hi0 Ho0 Hpend Hpast HO]
  · isplitr; · iexact Hlv
    isplitr; · iexact Hlv
    isplitl [Hi0]; · iexact Hi0
    isplitl [Ho0]; · iexact Ho0
    isplitl [Hpend]; · iexact Hpend
    isplitl [Hpast]; · iexact Hpast
    iexact HO
  iintro ⟨Hi0, Ho0, Hpend, Hpast, HO⟩
  iapply (step_end (k := 2 * t.val + 1) (x := x) (q := q1) (y0 := y0) (y := y) (by omega) (hy _ (by omega)) hO (by rw [cond3_iff]; omega) (by rw [cond4_iff]; omega)
    (fun h => (off19_eq i t).trans (inAt_eq (taskNo_lt i (by have := (cond4_iff t).mp h; omega)))) ((off10_eq i t 1).trans (outAt_eq (taskNo_lt i (by omega))))
    (fun kk => loops (Nat.mod_lt _ (by decide)) h7 rfl rfl rfl rfl)) $$ [Hi1 Ho1 Hpend Hpast HO]
  · isplitr; · iexact Hlv
    isplitr; · iexact Hlv
    isplitl [Hi1]; · iexact Hi1
    isplitl [Ho1]; · iexact Ho1
    isplitl [Hpend]; · iexact Hpend
    isplitl [Hpast]; · iexact Hpast
    iexact HO
  iintro ⟨Hi1, Ho1, Hpend, Hpast, HO⟩
  isplitr; · iexact Hlv
  isplitl [Hi0]; · iexact Hi0
  isplitl [Ho0]; · iexact Ho0
  isplitl [Hi1]; · iexact Hi1
  isplitl [Ho1]; · iexact Ho1
  isplitl [Hpend]; · iexact Hpend
  isplitl [Hpast]; · iexact Hpast
  iexact HO

/-! ## The whole -/

theorem inv_end (u : PUnit) :
    inv q0 q1 arg4 arg5 arg6 arg7 arg8 arg9 arg10 arg11 O W d i x y0 y k1_t1_loop.trips u
      ⊢ iprop(((∃ r, Has d i arg4 r) ∗ (xLoc d ↦[Finset.univ]{q0} x) ∗ semVal (tile d i, .dma arg8.sem) 0)
        ∗ Going d i y arg6 arg10.sem (taskNo i 18) ∗ ((∃ r, Has d i arg5 r) ∗ (xLoc d ↦[Finset.univ]{q1} x) ∗ semVal (tile d i, .dma arg9.sem) 0)
        ∗ Going d i y arg7 arg11.sem (taskNo i 19) ∗ past d i y 18 ∗ owing d i O W) := by
  rw [show k1_t1_loop.trips = 10 from rfl]
  unfold inv
  rw [inSlot_ge (k := 2 * 10) (by decide), inSlot_ge (k := 2 * 10 + 1) (by decide), outSlot_ge (k := 18), outSlot_ge (k := 19)]
  iintro ⟨-, Hi0, Ho0, Hi1, Ho1, -, Hpast, HO⟩
  isplitl [Hi0]; · iexact Hi0
  isplitl [Ho0]; · iexact Ho0
  isplitl [Hi1]; · iexact Hi1
  isplitl [Ho1]; · iexact Ho1
  isplitl [Hpast]; · iexact Hpast
  iexact HO

theorem whole (h6 : Plain (F := F) arg6) (h7 : Plain (F := F) arg7) (hO : ∀ g, O g none = 0)
    (hy : ∀ k < 20, ∀ p, y (outIdx (taskNo i k) p) = decodeChunk (104 + taskNo i k / 16) (taskNo i k % 16) (chunkOf x (taskNo i k)) p) :
    iprop(levAts (K (F := F)).L (K (F := F)).lev
        ∗ ((xLoc d ↦[Finset.univ]{q0} x) ∗ (xLoc d ↦[Finset.univ]{q1} x))
        ∗ ((∃ r, Has d i arg4 r) ∗ (∃ r, Has d i arg5 r) ∗ (∃ r, Has d i arg6 r) ∗ (∃ r, Has d i arg7 r))
        ∗ (semVal (tile d i, .dma arg8.sem) 0 ∗ semVal (tile d i, .dma arg9.sem) 0 ∗ semVal (tile d i, .dma arg10.sem) 0 ∗ semVal (tile d i, .dma arg11.sem) 0)
        ∗ (bigSep (Finset.range 20) fun j => (yLoc d ↦[blockOf (taskNo i j)]{fullShare} y0)) ∗ owes (tile d i) O W)
      ⊢ wp frame (wpE (defs₀ (F := F)) 𝒱₀ (tile d i) none) Set.univ
          (cc1__sc_decode i xm (Memref.isWhole_whole _) ym (Memref.isWhole_whole _) arg4 harg4 arg5 harg5 arg6 harg6 arg7 harg7 arg8 arg9 arg10 arg11)
          fun _ => iprop(((xLoc d ↦[Finset.univ]{q0} x) ∗ (xLoc d ↦[Finset.univ]{q1} x))
            ∗ ((∃ r, Has d i arg4 r) ∗ (∃ r, Has d i arg5 r) ∗ (∃ r, Has d i arg6 r) ∗ (∃ r, Has d i arg7 r))
            ∗ (semVal (tile d i, .dma arg8.sem) 0 ∗ semVal (tile d i, .dma arg9.sem) 0 ∗ semVal (tile d i, .dma arg10.sem) 0 ∗ semVal (tile d i, .dma arg11.sem) 0)
            ∗ (bigSep (Finset.range 20) fun j => (yLoc d ↦[blockOf (taskNo i j)]{fullShare} y)) ∗ owing d i O W) := by
  rw [cc1__sc_decode_eq_skeleton]
  unfold cc1__sc_decode_skel
  simp only [k1_part15_eq_skeleton, k1_part16_eq_skeleton, k1_part17_eq_skeleton]
  unfold k1_part15_skel k1_part16_skel k1_part17_skel
  simp only [Prog.lift, Prog.bind_op, Prog.bind_ret, Prog.pure_eq_ret, Prog.bind_assoc]
  iintro ⟨#Hlv, ⟨Hx0, Hx1⟩, ⟨Ha4, Ha5, Ha6, Ha7⟩, ⟨Hs8, Hs9, Hs10, Hs11⟩, Hpend, HO⟩
  iapply (come (T := taskNo i 0) (x := x) (q := q0) (taskNo_lt i (by decide)) ((off1_first i 0).trans (inAt_eq (taskNo_lt i (by decide))))) $$ [Hx0 Ha4 Hs8]
  · isplitl [Ha4]; · iexact Ha4
    isplitl [Hx0]; · iexact Hx0
    iexact Hs8
  iintro Hi0
  iapply (come (T := taskNo i 1) (x := x) (q := q1) (taskNo_lt i (by decide)) ((off1_first i 1).trans (inAt_eq (taskNo_lt i (by decide))))) $$ [Hx1 Ha5 Hs9]
  · isplitl [Ha5]; · iexact Ha5
    isplitl [Hx1]; · iexact Hx1
    iexact Hs9
  iintro Hi1
  sl_for (inv q0 q1 arg4 arg5 arg6 arg7 arg8 arg9 arg10 arg11 O W d i x y0 y) $$ [Hi0 Hi1 Ha6 Ha7 Hs10 Hs11 Hpend HO]
  · intro t u
    exact trip x y0 y q0 q1 arg4 harg4 arg5 harg5 arg6 harg6 arg7 harg7 arg8 arg9 arg10 arg11 O W h6 h7 hO hy t u
  · unfold inv
    rw [inSlot_lt (k := 2 * 0) (by decide), inSlot_lt (k := 2 * 0 + 1) (by decide), outSlot_lt (k := 2 * 0) (by decide), outSlot_lt (k := 2 * 0 + 1) (by decide)]
    isplitr; · iexact Hlv
    isplitl [Hi0]; · iexact Hi0
    isplitl [Ha6 Hs10]
    · isplitl [Ha6]; · iexact Ha6
      iexact Hs10
    isplitl [Hi1]; · iexact Hi1
    isplitl [Ha7 Hs11]
    · isplitl [Ha7]; · iexact Ha7
      iexact Hs11
    isplitl [Hpend]
    · unfold pend
      rw [show Finset.Ico (2 * 0) 20 = Finset.range 20 by decide]
      iexact Hpend
    isplitr
    · unfold past
      rw [show Finset.range (2 * 0 - 2) = ∅ by decide, bigSep_empty]; iempintro
    unfold owing
    iexists W
    isplitr; · ipureintro; exact fun p hp => Or.inl hp
    iexact HO
  iintro %u HI
  ihave HI := (inv_end x y0 y q0 q1 arg4 arg5 arg6 arg7 arg8 arg9 arg10 arg11 O W u) $$ HI
  icases HI with ⟨⟨Ha4, Hx0, Hs8⟩, Ho0, ⟨Ha5, Hx1, Hs9⟩, Ho1, Hpast, HO⟩
  ihave HO := owing_open $$ HO
  icases HO with ⟨%W1, %hW1, HO⟩
  iapply (gone hO) $$ [Ho0 HO]
  · isplitr; · iexact Hlv
    isplitl [Ho0]; · iexact Ho0
    iexact HO
  iintro ⟨Hy0, Ha6, Hs10, HO⟩
  ihave HO := (owing_insert _ hW1) $$ HO
  ihave HO := owing_open $$ HO
  icases HO with ⟨%W2, %hW2, HO⟩
  iapply (gone hO) $$ [Ho1 HO]
  · isplitr; · iexact Hlv
    isplitl [Ho1]; · iexact Ho1
    iexact HO
  iintro ⟨Hy1, Ha7, Hs11, HO⟩
  ihave HO := (owing_insert _ hW2) $$ HO
  rw [wp_ret]; imodintro
  isplitl [Hx0 Hx1]
  · isplitl [Hx0]; · iexact Hx0
    iexact Hx1
  isplitl [Ha4 Ha5 Ha6 Ha7]
  · isplitl [Ha4]; · iexact Ha4
    isplitl [Ha5]; · iexact Ha5
    isplitl [Ha6]; · iexact Ha6
    iexact Ha7
  isplitl [Hs8 Hs9 Hs10 Hs11]
  · isplitl [Hs8]; · iexact Hs8
    isplitl [Hs9]; · iexact Hs9
    isplitl [Hs10]; · iexact Hs10
    iexact Hs11
  isplitl [Hy0 Hy1 Hpast]
  · iapply (show past d i y (19 + 1) ⊢ bigSep (Finset.range 20) (fun j => (yLoc d ↦[blockOf (taskNo i j)]{fullShare} y)) from .rfl)
    iapply (Entails.of_eq (past_step (i := i) y 19).symm)
    isplitl [Hy1]; · iexact Hy1
    iapply (Entails.of_eq (past_step (i := i) y 18).symm)
    isplitl [Hy0]; · iexact Hy0
    iexact Hpast
  iexact HO

end

end Cert.Proof.Run

end
-- ==== Proof.Task.lean ====
/-
  One tile's whole task as the launch asks for it, and how the input and the result are dealt out among the tiles: every tile
  reads all of the input, at a share of it, and writes the blocks of its own twenty tasks.
-/
module

public import proofs.«01_k».proof.Proof.Tile

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local irreducible] Idealize.SL.BI.bigSep

/-! ## The result of all the tasks -/

/-- The result at every block: the decoded chunk. -/
def yDone (x : S144x86x4096.Idx → Elt F .f32) : S40x16x22016.Idx → Elt F .f32 := fun o =>
  decodeChunk (104 + (o 0).val) (o 1).val (chunkOf x (16 * (o 0).val + (o 1).val)) (Fin.cons (⟨(o 2).val, (o 2).isLt⟩ : Fin 22016) finZeroElim)

theorem yDone_at (x : S144x86x4096.Idx → Elt F .f32) {T : ℕ} (hT : T < 640) (p : S22016.Idx) :
    yDone x (outIdx T p) = decodeChunk (104 + T / 16) (T % 16) (chunkOf x T) p := by
  have h0 : (outIdx T p 0).val = T / 16 := Nat.mod_eq_of_lt (by omega)
  have h1 : (outIdx T p 1).val = T % 16 := rfl
  have h2 : (Fin.cons (⟨(outIdx T p 2).val, (outIdx T p 2).isLt⟩ : Fin 22016) finZeroElim : S22016.Idx) = p := by
    funext a
    match a with
    | 0 => rfl
  unfold yDone
  rw [h2, h0, h1, show 16 * (T / 16) + T % 16 = T by omega]

/-! ## The tile's scratches and semaphores -/

theorem plain2 : Plain (F := F) (Memref.whole cc1_scratch2 : Memref sig .scVector .vmem S22016 .f32) :=
  ⟨(Memref.set_access_whole (cc1_scratch2 : Ref sig .scVector)).trans (View.set_whole (cc1_scratch2 : Ref sig .scVector)).symm,
    fun f => (Memref.read_access_whole (Elt F) (cc1_scratch2 : Ref sig .scVector) f).trans (View.read_whole (Val := Elt F) (cc1_scratch2 : Ref sig .scVector) f).symm⟩
theorem plain3 : Plain (F := F) (Memref.whole cc1_scratch3 : Memref sig .scVector .vmem S22016 .f32) :=
  ⟨(Memref.set_access_whole (cc1_scratch3 : Ref sig .scVector)).trans (View.set_whole (cc1_scratch3 : Ref sig .scVector)).symm,
    fun f => (Memref.read_access_whole (Elt F) (cc1_scratch3 : Ref sig .scVector) f).trans (View.read_whole (Val := Elt F) (cc1_scratch3 : Ref sig .scVector) f).symm⟩

section Tile

variable (d : Dev nD) (i : grid1.Coords)

abbrev sm (s : DmaSem sig) : GSem nD τ sig := (tile d i, SemLoc.dma s)

omit [FloatOps F] in
theorem ownSems0_tile :
    (ownSems0 (tile d i) : sProp 𝕄)
      = iprop(semVal (sm d i cc1_scratch4.sem) 0 ∗ semVal (sm d i cc1_scratch5.sem) 0 ∗ semVal (sm d i cc1_scratch6.sem) 0 ∗ semVal (sm d i cc1_scratch7.sem) 0
          ∗ bigSep (((((ownCells (tile d i)).erase (sm d i cc1_scratch4.sem)).erase (sm d i cc1_scratch5.sem)).erase (sm d i cc1_scratch6.sem)).erase (sm d i cc1_scratch7.sem))
              fun g => semVal g 0) := by
  have hm : ∀ s : DmaSem sig, (SemLoc.dma s : SemLoc sig).isScoped .scVector = true → sm d i s ∈ ownCells (tile d i) :=
    fun s hs => mem_ownCells.mpr ⟨rfl, hs⟩
  have hne : ∀ s s' : DmaSem sig, s ≠ s' → sm d i s ≠ sm d i s' := fun s s' h e => h (SemLoc.dma.inj (Prod.mk.inj e).2)
  unfold SparseCore.Cfg.ownSems0
  rw [SparseCore.bigSep_erase' (hm cc1_scratch4.sem (by decide)),
    SparseCore.bigSep_erase' (Finset.mem_erase.mpr ⟨hne cc1_scratch5.sem cc1_scratch4.sem (by decide), hm _ (by decide)⟩),
    SparseCore.bigSep_erase' (Finset.mem_erase.mpr ⟨hne cc1_scratch6.sem cc1_scratch5.sem (by decide),
      Finset.mem_erase.mpr ⟨hne cc1_scratch6.sem cc1_scratch4.sem (by decide), hm _ (by decide)⟩⟩),
    SparseCore.bigSep_erase' (Finset.mem_erase.mpr ⟨hne cc1_scratch7.sem cc1_scratch6.sem (by decide),
      Finset.mem_erase.mpr ⟨hne cc1_scratch7.sem cc1_scratch5.sem (by decide),
        Finset.mem_erase.mpr ⟨hne cc1_scratch7.sem cc1_scratch4.sem (by decide), hm _ (by decide)⟩⟩⟩)]

omit [FloatOps F] in
theorem ownBufs_tile :
    (ownBufs (tile d i) : sProp 𝕄)
      = iprop((∃ f, (tile d i).loc cc1_scratch0 ↦{fullShare} f) ∗ (∃ f, (tile d i).loc cc1_scratch1 ↦{fullShare} f)
          ∗ (∃ f, (tile d i).loc cc1_scratch2 ↦{fullShare} f) ∗ (∃ f, (tile d i).loc cc1_scratch3 ↦{fullShare} f)
          ∗ bigSep (((((ownRefs (τ := τ) (.scVector (cV i) (jV i))).erase ((Proc.scVector (cV i) (jV i)).devRef cc1_scratch0)).erase
              ((Proc.scVector (cV i) (jV i)).devRef cc1_scratch1)).erase ((Proc.scVector (cV i) (jV i)).devRef cc1_scratch2)).erase
              ((Proc.scVector (cV i) (jV i)).devRef cc1_scratch3))
              fun b => iprop(∃ f, ((d, b) : Loc nD τ sig) ↦{fullShare} f)) := by
  have hne : ∀ b b' : Ref sig .scVector, b ≠ b' → (Proc.scVector (cV i) (jV i)).devRef b ≠ (Proc.scVector (cV i) (jV i)).devRef b' :=
    fun b b' h e => h (Proc.devRef_injective _ e)
  have hm : ∀ b : Ref sig .scVector, ((Proc.scVector (cV i) (jV i)).devRef b).owner = .proc (Proc.scVector (cV i) (jV i) : Proc τ) →
      (Proc.scVector (cV i) (jV i)).devRef b ∈ ownRefs (τ := τ) (sig := sig) (.scVector (cV i) (jV i)) :=
    fun b hb => SparseCore.Cfg.mem_ownRefs_of_owner hb
  unfold SparseCore.Cfg.ownBufs
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide),
      Finset.mem_erase.mpr ⟨hne cc1_scratch2 cc1_scratch0 (by decide), hm cc1_scratch2 rfl⟩⟩),
    SparseCore.bigSep_erase' (Finset.mem_erase.mpr ⟨hne cc1_scratch3 cc1_scratch2 (by decide),
      Finset.mem_erase.mpr ⟨hne cc1_scratch3 cc1_scratch1 (by decide),
        Finset.mem_erase.mpr ⟨hne cc1_scratch3 cc1_scratch0 (by decide), hm cc1_scratch3 rfl⟩⟩⟩)]

/-- A whole scratch at some contents is a scratch that reads something. -/
theorem has_some {s : Shape} (a : Memref sig .scVector .vmem s .f32) (ha : a.view.set = Finset.univ) :
    (iprop(∃ f, a.view.loc (tile d i) ↦{fullShare} f) : sProp 𝕄) ⊣⊢ iprop(∃ r, Has d i a r) := by
  unfold Has
  rw [ha]
  refine ⟨?_, ?_⟩
  · iintro ⟨%f, H⟩; iexists _; iexists f; isplitr; · ipureintro; rfl
    iexact H
  · iintro ⟨%r, %f, -, H⟩; iexists f; iexact H

theorem has0 : (iprop(∃ f, (tile d i).loc cc1_scratch0 ↦{fullShare} f) : sProp 𝕄)
    ⊣⊢ iprop(∃ r, Has d i (Memref.whole cc1_scratch0 : Memref sig .scVector .vmem S86x256 .f32) r) :=
  has_some d i (Memref.whole cc1_scratch0 : Memref sig .scVector .vmem S86x256 .f32) (View.set_whole (cc1_scratch0 : Ref sig .scVector))
theorem has1 : (iprop(∃ f, (tile d i).loc cc1_scratch1 ↦{fullShare} f) : sProp 𝕄)
    ⊣⊢ iprop(∃ r, Has d i (Memref.whole cc1_scratch1 : Memref sig .scVector .vmem S86x256 .f32) r) :=
  has_some d i (Memref.whole cc1_scratch1 : Memref sig .scVector .vmem S86x256 .f32) (View.set_whole (cc1_scratch1 : Ref sig .scVector))
theorem has2 : (iprop(∃ f, (tile d i).loc cc1_scratch2 ↦{fullShare} f) : sProp 𝕄)
    ⊣⊢ iprop(∃ r, Has d i (Memref.whole cc1_scratch2 : Memref sig .scVector .vmem S22016 .f32) r) :=
  has_some d i (Memref.whole cc1_scratch2 : Memref sig .scVector .vmem S22016 .f32) (View.set_whole (cc1_scratch2 : Ref sig .scVector))
theorem has3 : (iprop(∃ f, (tile d i).loc cc1_scratch3 ↦{fullShare} f) : sProp 𝕄)
    ⊣⊢ iprop(∃ r, Has d i (Memref.whole cc1_scratch3 : Memref sig .scVector .vmem S22016 .f32) r) :=
  has_some d i (Memref.whole cc1_scratch3 : Memref sig .scVector .vmem S22016 .f32) (View.set_whole (cc1_scratch3 : Ref sig .scVector))

variable (x : Buf (Elt F) (xLoc d)) (y0 : Buf (Elt F) (yLoc d)) (q : PosShare TreeShare)

/-- What a tile is handed and gives back: a share of the input and its blocks of the result. -/
def goOf (y : Buf (Elt F) (yLoc d)) : sProp 𝕄 :=
  iprop((xLoc d ↦[Finset.univ]{q} x) ∗ bigSep (Finset.range 20) fun j => (yLoc d ↦[blockOf (taskNo i j)]{fullShare} y))

theorem tile_body (hF : (K (F := F)).Facts) (O : CellTallies nD τ sig (HIx 1)) (W : Waits sig (HIx 1)) (hO : ∀ g, O g none = 0) :
    iprop(levAts (K (F := F)).L (K (F := F)).lev ∗ emp ∗ goOf d i x q y0 ∗ scopedBufs (tile d i) ∗ scopedSems0 (tile d i) ∗ owes (tile d i) O W)
      ⊢ wp frame (wpE (defs₀ (F := F)) 𝒱₀ (tile d i) none) Set.univ
          (cc1__sc_decode i xm (Memref.isWhole_whole _) ym (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6 cc1_scratch7)
          fun _ => iprop(goOf d i x q (yDone x) ∗ scopedBufs (tile d i) ∗ scopedSems0 (tile d i)
            ∗ ∃ W', ⌜∀ p ∈ W', p ∈ W ∨ p.2 = none⌝ ∗ owes (tile d i) O W') := by
  rw [(K (F := F)).scopedBufs_V hF d (cV i) (jV i), SparseCore.Cfg.scopedSems0_V (Val := Elt F) d (cV i) (jV i), ownSems0_tile, ownBufs_tile]
  unfold goOf
  iintro ⟨#Hlv, -, ⟨Hx, Hy⟩, ⟨H0, H1, H2, H3, Hbufs⟩, ⟨Hs4, Hs5, Hs6, Hs7, Hsems⟩, HO⟩
  ihave Hx := (pointsTo_share (PosShare.mem_left_op_right q)).1 $$ Hx
  ihave H0 := (has0 d i).1 $$ H0
  ihave H1 := (has1 d i).1 $$ H1
  ihave H2 := (has2 d i).1 $$ H2
  ihave H3 := (has3 d i).1 $$ H3
  iapply (wp_wand) $$ [Hx H0 H1 H2 H3 Hs4 Hs5 Hs6 Hs7 Hy HO] [Hbufs Hsems]
  · iapply (whole x y0 (yDone x) q.left q.right (Memref.whole cc1_scratch0) (Memref.isWhole_whole _) (Memref.whole cc1_scratch1) (Memref.isWhole_whole _)
      (Memref.whole cc1_scratch2) (Memref.isWhole_whole _) (Memref.whole cc1_scratch3) (Memref.isWhole_whole _)
      cc1_scratch4 cc1_scratch5 cc1_scratch6 cc1_scratch7 O W plain2 plain3 hO (fun k hk p => yDone_at x (taskNo_lt i hk) p))
    isplitr; · iexact Hlv
    isplitl [Hx]; · iexact Hx
    isplitl [H0 H1 H2 H3]
    · isplitl [H0]; · iexact H0
      isplitl [H1]; · iexact H1
      isplitl [H2]; · iexact H2
      iexact H3
    isplitl [Hs4 Hs5 Hs6 Hs7]
    · isplitl [Hs4]; · iexact Hs4
      isplitl [Hs5]; · iexact Hs5
      isplitl [Hs6]; · iexact Hs6
      iexact Hs7
    isplitl [Hy]; · iexact Hy
    iexact HO
  · iintro %u ⟨Hx, ⟨H0, H1, H2, H3⟩, ⟨Hs4, Hs5, Hs6, Hs7⟩, Hy, HO⟩
    isplitl [Hx Hy]
    · isplitl [Hx]
      · iapply (pointsTo_share (PosShare.mem_left_op_right q)).2
        iexact Hx
      iexact Hy
    isplitl [H0 H1 H2 H3 Hbufs]
    · isplitl [H0]; · iapply (has0 d i).2; iexact H0
      isplitl [H1]; · iapply (has1 d i).2; iexact H1
      isplitl [H2]; · iapply (has2 d i).2; iexact H2
      isplitl [H3]; · iapply (has3 d i).2; iexact H3
      iexact Hbufs
    isplitl [Hs4 Hs5 Hs6 Hs7 Hsems]
    · isplitl [Hs4]; · iexact Hs4
      isplitl [Hs5]; · iexact Hs5
      isplitl [Hs6]; · iexact Hs6
      isplitl [Hs7]; · iexact Hs7
      iexact Hsems
    iapply owing_open; iexact HO

end Tile

end Cert.Proof.Run

end
-- ==== Proof.Launch.lean ====
/-
  The call as the launch sees it: what each SparseCore and each tile is handed, and that all of it together is the whole
  input and the whole result.
-/
module

public import proofs.«01_k».proof.Proof.Task

@[expose] public section

noncomputable section

namespace Cert.Proof.Run

open Cert.KernelIdeal Cert.KernelIdeal.Gen
open Cert.Proof.Decode Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

attribute [local irreducible] Idealize.SL.BI.bigSep

/-! ## Dealing the arrays to the tiles -/

def coordsV (c : Fin (grid1.bound 0)) (s : Fin (grid1.bound 1)) : grid1.Coords :=
  fun | 0 => c | 1 => s | ⟨_ + 2, h⟩ => absurd h (Nat.not_lt.2 (Nat.le_add_left _ _))

/-- The blocks of one tile, of one SparseCore. -/
def tileSet (c : Fin 2) (s : Fin 16) : Finset S40x16x22016.Idx := (Finset.range 20).biUnion fun j => blockOf (taskNo (coordsV c s) j)
def coreSet (c : Fin 2) : Finset S40x16x22016.Idx := Finset.univ.biUnion fun s : Fin 16 => tileSet c s

theorem mem_blockOf {T : ℕ} {o : S40x16x22016.Idx} : o ∈ blockOf T ↔ 16 * (o 0).val + (o 1).val = T := by
  have h1 : (o 1).val < 16 := (o 1).isLt
  simp only [blockOf, Finset.mem_filter, Finset.mem_univ, true_and]
  omega

theorem taskNo_coords (c : Fin 2) (s : Fin 16) (j : ℕ) : taskNo (coordsV c s) j = s.val * 2 + c.val + 32 * j := rfl

theorem mem_tileSet {c : Fin 2} {s : Fin 16} {o : S40x16x22016.Idx} :
    o ∈ tileSet c s ↔ (16 * (o 0).val + (o 1).val) % 32 = s.val * 2 + c.val := by
  have h0 : (o 0).val < 40 := (o 0).isLt
  have h1 : (o 1).val < 16 := (o 1).isLt
  simp only [tileSet, Finset.mem_biUnion, Finset.mem_range, mem_blockOf, taskNo_coords]
  constructor
  · rintro ⟨j, hj, e⟩; omega
  · intro e; exact ⟨(16 * (o 0).val + (o 1).val) / 32, by omega, by omega⟩

theorem mem_coreSet {c : Fin 2} {o : S40x16x22016.Idx} : o ∈ coreSet c ↔ (16 * (o 0).val + (o 1).val) % 2 = c.val := by
  simp only [coreSet, Finset.mem_biUnion, Finset.mem_univ, true_and, mem_tileSet]
  constructor
  · rintro ⟨s, e⟩; omega
  · intro e; exact ⟨⟨(16 * (o 0).val + (o 1).val) % 32 / 2, by omega⟩, by show _ = (16 * (o 0).val + (o 1).val) % 32 / 2 * 2 + c.val; omega⟩

theorem cover : (Finset.univ : Finset (Fin 2)).biUnion coreSet = Finset.univ := by
  ext o
  simp only [Finset.mem_biUnion, Finset.mem_univ, true_and, mem_coreSet, iff_true]
  exact ⟨⟨(16 * (o 0).val + (o 1).val) % 2, by omega⟩, rfl⟩

theorem y_deal (d : Dev nD) (y : Buf (Elt F) (yLoc d)) :
    (yLoc d ↦{fullShare} y : sProp 𝕄)
      = bigSep Finset.univ fun c : Fin 2 => bigSep Finset.univ fun s : Fin 16 => bigSep (Finset.range 20) fun j =>
          (yLoc d ↦[blockOf (taskNo (coordsV c s) j)]{fullShare} y) := by
  rw [show (Finset.univ : Finset (Idx (yLoc d))) = (Finset.univ : Finset (Fin 2)).biUnion coreSet from cover.symm,
    pointsTo_biUnion Finset.univ (ℓ := yLoc d) coreSet
    (fun c _ c' _ h => Finset.disjoint_left.mpr fun o ho ho' => h (Fin.ext ((mem_coreSet.mp ho).symm.trans (mem_coreSet.mp ho'))))]
  refine bigSep_congr fun c _ => ?_
  unfold coreSet
  rw [pointsTo_biUnion Finset.univ (ℓ := yLoc d) (tileSet c)
    (fun s _ s' _ h => Finset.disjoint_left.mpr fun o ho ho' => h (Fin.ext (by have := mem_tileSet.mp ho; have := mem_tileSet.mp ho'; omega)))]
  refine bigSep_congr fun s _ => ?_
  unfold tileSet
  rw [pointsTo_biUnion (Finset.range 20) (ℓ := yLoc d) (fun j => blockOf (taskNo (coordsV c s) j))
    (fun j _ j' _ h => Finset.disjoint_left.mpr fun o ho ho' => h (by
      have e := (mem_blockOf.mp ho).symm.trans (mem_blockOf.mp ho'); rw [taskNo_coords, taskNo_coords] at e; omega))]

/-- The share of the input that a tile reads at. -/
def shareOf (c : Fin 2) (s : Fin 16) : PosShare TreeShare := Transfers.dealOf (Transfers.dealOf fullShare (Finset.univ : Finset (Fin 2)) c) (Finset.univ : Finset (Fin 16)) s

theorem x_deal (d : Dev nD) (x : Buf (Elt F) (xLoc d)) :
    (xLoc d ↦{fullShare} x : sProp 𝕄)
      = bigSep Finset.univ fun c : Fin 2 => bigSep Finset.univ fun s : Fin 16 => (xLoc d ↦[Finset.univ]{shareOf c s} x) := by
  rw [Transfers.pointsTo_deal (Finset.univ : Finset (Fin 2)) ⟨0, Finset.mem_univ _⟩ fullShare]
  refine bigSep_congr fun c _ => ?_
  rw [Transfers.pointsTo_deal (Finset.univ : Finset (Fin 16)) ⟨0, Finset.mem_univ _⟩]
  rfl

/-- What one tile is handed, with the result at `y`. -/
abbrev tileOf (d : Dev nD) (x : Buf (Elt F) (xLoc d)) (y : Buf (Elt F) (yLoc d)) (c : Fin 2) (s : Fin 16) : sProp 𝕄 :=
  goOf d (coordsV c s) x (shareOf c s) y

theorem deal (d : Dev nD) (x : Buf (Elt F) (xLoc d)) (y : Buf (Elt F) (yLoc d)) :
    iprop((xLoc d ↦{fullShare} x) ∗ (yLoc d ↦{fullShare} y)) = bigSep Finset.univ fun c : Fin 2 => bigSep Finset.univ fun s : Fin 16 => tileOf (F := F) d x y c s := by
  rw [x_deal, y_deal, ← bigSep_sep']
  refine bigSep_congr fun c _ => ?_
  rw [← bigSep_sep']
  refine bigSep_congr fun s _ => ?_
  rfl

/-! ## The call's payloads -/

section Call

variable (x : (d : Dev nD) → Buf (Elt F) (xLoc d)) (y0 : (d : Dev nD) → Buf (Elt F) (yLoc d))

/-- Each SparseCore is handed what its tiles need, each tile its share of the input and its blocks; the blocks come back
    decoded. -/
def P : (K (F := F)).Pay (nD := nD) (Val := Elt F) (Name := ℕ) (U := UU) where
  st := fun q d c => match q with | 0 => bigSep Finset.univ fun s : Fin 16 => tileOf d (x d) (y0 d) (Fin.cast nCore_zero c) s
  dn := fun q d c => match q with | 0 => bigSep Finset.univ fun s : Fin 16 => tileOf d (x d) (yDone (x d)) (Fin.cast nCore_zero c) s
  go := fun q d c i => match q with | 0 => tileOf d (x d) (y0 d) (Fin.cast nCore_zero c) (Fin.cast nSub_zero i)
  td := fun q d c i => match q with | 0 => tileOf d (x d) (yDone (x d)) (Fin.cast nCore_zero c) (Fin.cast nSub_zero i)
  x := fun _ _ => iprop(emp)

instance tileOf_storable (d : Dev nD) (x : Buf (Elt F) (xLoc d)) (y : Buf (Elt F) (yLoc d)) (c : Fin 2) (s : Fin 16) :
    BI.Storable (upEmb : UEmb _ 𝕄) (tileOf d x y c s) := by
  unfold tileOf goOf; infer_instance

instance P_storable : (P (F := F) x y0).IsStorable where
  st q d c := match q with
    | 0 => (inferInstance : BI.Storable (upEmb : UEmb _ 𝕄) (bigSep Finset.univ fun s : Fin 16 => tileOf d (x d) (y0 d) (Fin.cast nCore_zero c) s))
  dn q d c := match q with
    | 0 => (inferInstance : BI.Storable (upEmb : UEmb _ 𝕄) (bigSep Finset.univ fun s : Fin 16 => tileOf d (x d) (yDone (x d)) (Fin.cast nCore_zero c) s))
  go q d c i := match q with
    | 0 => (inferInstance : BI.Storable (upEmb : UEmb _ 𝕄) (tileOf d (x d) (y0 d) (Fin.cast nCore_zero c) (Fin.cast nSub_zero i)))
  td q d c i := match q with
    | 0 => (inferInstance : BI.Storable (upEmb : UEmb _ 𝕄) (tileOf d (x d) (yDone (x d)) (Fin.cast nCore_zero c) (Fin.cast nSub_zero i)))

theorem defs₀_vector (c : Fin τ.nSC) (s : Fin τ.nSub) :
    defs₀ (F := F) (.scVector c s) 1 ()
      = SparseCore.onTile hcore1 hsub1 (fun c s => cc1__sc_decode (coordsV c s) xm (Memref.isWhole_whole _) ym (Memref.isWhole_whole _) (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4 cc1_scratch5 cc1_scratch6 cc1_scratch7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 1024 in
theorem tileObl (hF : (K (F := F)).Facts) : (K (F := F)).TileObl (D (F := F)) 𝒱 (P x y0) v₀ 0 := by
  intro d c i O W hO _ _
  simp only [show (P x y0).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) (x d) (y0 d) (shareOf ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P x y0) 0 := by
  intro d c
  show (bigSep Finset.univ fun s : Fin 16 => tileOf d (x d) (y0 d) (Fin.cast nCore_zero c) s) ⊢ |={Set.univ}=> iprop(
      (bigSep Finset.univ fun i : Fin ((K (F := F)).nSub 0) => tileOf d (x d) (y0 d) (Fin.cast nCore_zero c) (Fin.cast nSub_zero i))
      ∗ ((bigSep Finset.univ fun i : Fin ((K (F := F)).nSub 0) => tileOf d (x d) (yDone (x d)) (Fin.cast nCore_zero c) (Fin.cast nSub_zero i))
          -∗ bigSep Finset.univ fun s : Fin 16 => tileOf d (x d) (yDone (x d)) (Fin.cast nCore_zero c) s))
  rw [bigSep_tasks (F := F) (fun s => tileOf d (x d) (y0 d) (Fin.cast nCore_zero c) s), bigSep_tasks (F := F) (fun s => tileOf d (x d) (yDone (x d)) (Fin.cast nCore_zero c) s)]
  iintro H; imodintro
  isplitl [H]; · iexact H
  iintro H; iexact H

/-- What the call takes and gives back, all SparseCores together: the input and the result whole. -/
theorem st_eq (d : Dev nD) : (bigSep Finset.univ fun c : Fin ((K (F := F)).nCore 0) => (P x y0).st 0 d c) = iprop((xLoc d ↦{fullShare} x d) ∗ (yLoc d ↦{fullShare} y0 d)) := by
  rw [deal]; exact bigSep_cores (F := F) (fun c => bigSep Finset.univ fun s : Fin 16 => tileOf d (x d) (y0 d) c s)
theorem dn_eq (d : Dev nD) : (bigSep Finset.univ fun c : Fin ((K (F := F)).nCore 0) => (P x y0).dn 0 d c) = iprop((xLoc d ↦{fullShare} x d) ∗ (yLoc d ↦{fullShare} yDone (x d))) := by
  rw [deal]; exact bigSep_cores (F := F) (fun c => bigSep Finset.univ fun s : Fin 16 => tileOf d (x d) (yDone (x d)) c s)

end Call

end Cert.Proof.Run

end
-- ==== Proof.Slab.lean ====
/-
  What the TensorCore computes for one slab, number by number.

  A grid step takes a slab of 86 rows of 4096 numbers (channel by grid cell), decodes all of it at once, choosing between
  the channels' formulas by the row number, and leaves the transposed slab, 4096 rows of 86.
-/
module

public import proofs.«01_k».proof.Proof.Decode
public import Idealize.ShloMosaic.Lib.Pipeline.Value

@[expose] public section

noncomputable section

namespace Cert.Proof.Slab

open Cert.KernelIdeal Cert.KernelIdeal.Gen
open Idealize.ShloMosaic Cert.Proof.Words Cert.Proof.Decode

variable {F : FTy → Type} [FloatOps F]

/-- The decoded number of slab `ba`, grid cell `g` and channel `c`, from the number `x` there. -/
def tcCell (ba g c : ℕ) (x : F .f32) : F .f32 :=
  if c = 0 then
    FloatOps.subf (FloatOps.addf (FloatOps.mulf (sg x) (Scalar.ofBits .f32 0x41066666#32))
      (FloatOps.mulf (FloatOps.sitofp .f32 (BitVec.ofNat 32 (g % 64))) (Scalar.ofBits .f32 0x41000000#32))) (Scalar.ofBits .f32 0x3E4CCCCD#32)
  else if c = 1 then
    FloatOps.subf (FloatOps.addf (FloatOps.mulf (sg x) (Scalar.ofBits .f32 0x41066666#32))
      (FloatOps.mulf (FloatOps.sitofp .f32 (BitVec.ofNat 32 (g / 64))) (Scalar.ofBits .f32 0x41000000#32))) (Scalar.ofBits .f32 0x3E4CCCCD#32)
  else if c = 2 then FloatOps.mulf (FloatOps.exp x) (awOf (ba % 18 / 6))
  else if c = 3 then FloatOps.mulf (FloatOps.exp x) (ahOf (ba % 18 / 6))
  else if c = 4 then FloatOps.addf x (angOf (ba % 18 % 6))
  else sg x

/-- The slab's anchor, its shape's number and its angle's number, as the body computes them from the grid step. -/
def stepW (n : ℕ) : BitVec 32 := fmodW .scalar (BitVec.ofNat 32 n) 18#32
def shapeW (n : ℕ) : BitVec 32 := fdivW .scalar (stepW n) 6#32
def angleW (n : ℕ) : BitVec 32 := fmodW .scalar (stepW n) 6#32

theorem shapeW_eq {n : ℕ} (hn : n < 104) : shapeW n = BitVec.ofNat 32 (n % 18 / 6) := by
  unfold shapeW stepW
  rw [fmodW_small (b := 18) _ (by omega) (by omega) (by omega), fdivW_small (b := 6) _ (by omega) (by omega) (by omega)]

theorem angleW_eq {n : ℕ} (hn : n < 104) : angleW n = BitVec.ofNat 32 (n % 18 % 6) := by
  unfold angleW stepW
  rw [fmodW_small (b := 18) _ (by omega) (by omega) (by omega), fmodW_small (b := 6) _ (by omega) (by omega) (by omega)]

/-- The row numbers and the cell numbers, as vectors. -/
abbrev rowsV : IVec S86x4096 32 := iota .tc S86x4096 32 [0] iota_S86x4096_d0_w32
abbrev cellsV : IVec S86x4096 32 := iota .tc S86x4096 32 [1] iota_S86x4096_d1_w32

/-- What the body stores, from the slab it loads. -/
def slabOf (n : ℕ) (X : Vec F S1x86x4096 .f32) : FVec F S1x4096x86 .f32 :=
  k0_pay1 (k0_pay3 (shapeW n)) (k0_pay4 (angleW n)) (k0_pay5 X) rowsV (k0_pay10 (k0_pay5 X)) (k0_pay11 (k0_pay5 X)) (k0_pay13 rowsV)
    (k0_pay14 (k0_pay5 X) k0_pay6) (k0_pay15 rowsV) (k0_pay16 (k0_pay5 X) cellsV 64#32 k0_pay7 k0_pay8 k0_pay9) (k0_pay17 rowsV)
    (k0_pay18 (k0_pay2 (shapeW n) (Scalar.cmpi .eq (shapeW n) 0#32) 1#32))

/-! ## Its numbers -/

theorem rows_at (i : S86x4096.Idx) : rowsV i = BitVec.ofNat 32 (i 0).val := iota_single_apply _ _ _ _ _ _
theorem cells_at (i : S86x4096.Idx) : cellsV i = BitVec.ofNat 32 (i 1).val := iota_single_apply _ _ _ _ _ _

theorem aw_at {n : ℕ} (hn : n < 104) : k0_pay2 (F := F) (shapeW n) (Scalar.cmpi .eq (shapeW n) 0#32) 1#32 = awOf (n % 18 / 6) := by
  rw [shapeW_eq hn]
  have h : n % 18 / 6 = 0 ∨ n % 18 / 6 = 1 ∨ n % 18 / 6 = 2 := by omega
  rcases h with h | h | h <;> rw [h] <;> rfl

theorem ah_at {n : ℕ} (hn : n < 104) : k0_pay3 (F := F) (shapeW n) = ahOf (n % 18 / 6) := by
  rw [shapeW_eq hn]
  have h : n % 18 / 6 = 0 ∨ n % 18 / 6 = 1 ∨ n % 18 / 6 = 2 := by omega
  rcases h with h | h | h <;> rw [h] <;> rfl

theorem ang_at {n : ℕ} (hn : n < 104) : k0_pay4 (F := F) (angleW n) = angOf (n % 18 % 6) := by
  rw [angleW_eq hn]; rfl

theorem gx_at (i : S86x4096.Idx) : k0_pay6 (F := F) i = FloatOps.sitofp .f32 (BitVec.ofNat 32 ((i 1).val % 64)) := by
  have h : (i 1).val < 4096 := (i 1).isLt
  rw [show k0_pay6 (F := F) i = FloatOps.sitofp .f32 (fmodW .vector (cellsV i) 64#32) from rfl, cells_at,
    fmodW_small (b := 64) _ (by omega) (by omega) (by omega)]

/-- The grid row as the body spells it, over the word of the cell. -/
theorem gyW_at (i : S86x4096.Idx) :
    Scalar.select
      (IntOp.andi
        (IntOp.cmpi .ne (IntOp.subi (k0_pay8 i) ((k0_pay9 i).setWidth 32))
          (IntOp.subi ((IntOp.cmpi .sgt (64#32) 0#32).setWidth 32) ((IntOp.cmpi .slt (64#32) 0#32).setWidth 32)))
        (IntOp.cmpi .ne (IntOp.remsi .vector (cellsV i) 64#32) 0#32))
      (IntOp.subi (k0_pay7 i) 1#32) (k0_pay7 i) = BitVec.ofNat 32 ((i 1).val / 64) := by
  have h : (i 1).val < 4096 := (i 1).isLt
  rw [← fdivW_small (b := 64) .vector (a := (i 1).val) (by omega) (by omega) (by omega), ← cells_at]
  rfl

theorem x_at (X : Vec F S1x86x4096 .f32) (i : S86x4096.Idx) : k0_pay5 X i = X (Fin.cons ⟨0, Nat.one_pos⟩ i) :=
  shapeCast_dropUnit_apply (n := 2) ![86, 4096] X shapeCasts_S1x86x4096_S86x4096 i

theorem sg_at (X : FVec F S86x4096 .f32) (i : S86x4096.Idx) : k0_pay10 X i = sg (X i) := rfl

/-- A choice by row number. -/
theorem pick_row (i : S86x4096.Idx) (n : ℕ) (hn : n < 2 ^ 31) (x y : F .f32) :
    Scalar.select (IntOp.cmpi .eq (rowsV i) (BitVec.ofNat 32 n)) x y = if (i 0).val = n then x else y := by
  have h : (i 0).val < 86 := (i 0).isLt
  rw [rows_at, eq_small (by omega) hn]
  by_cases e : (i 0).val = n
  · rw [if_pos e, decide_eq_true e]; rfl
  · rw [if_neg e, decide_eq_false e]; rfl

/-- Where number `(g, c)` of the stored slab comes from. -/
abbrev rowCell (i : S1x4096x86.Idx) : S86x4096.Idx := Fin.cons (i 2) (Fin.cons (i 1) finZeroElim)

theorem slab_at {n : ℕ} (hn : n < 104) (X : Vec F S1x86x4096 .f32) (i : S1x4096x86.Idx) :
    slabOf n X i = tcCell n (i 1).val (i 2).val (X (Fin.cons ⟨0, Nat.one_pos⟩ (rowCell i))) := by
  unfold slabOf
  rw [aw_at hn, ah_at hn, ang_at hn]
  unfold k0_pay1
  refine (shapeCast_addUnit_apply (n := 2) ![4096, 86] _ shapeCasts_S4096x86_S1x4096x86 i).trans ?_
  refine (transpose_apply (t := S4096x86) [1, 0] _ transposes_S86x4096_p1_0_S4096x86 _ (rowCell i) ?_).trans ?_
  · intro b; fin_cases b <;> rfl
  generalize hj : rowCell i = j
  have h0 : (i 2).val = (j 0).val := by rw [← hj]; rfl
  have h1 : (i 1).val = (j 1).val := by rw [← hj]; rfl
  rw [h0, h1, show X (Fin.cons ⟨0, Nat.one_pos⟩ j) = k0_pay5 X j from (x_at X j).symm]
  generalize k0_pay5 X = Y
  show Scalar.select (IntOp.cmpi .eq (rowsV j) (BitVec.ofNat 32 0))
      (FloatOps.subf (FloatOps.addf (FloatOps.mulf (sg (Y j)) (Scalar.ofBits .f32 0x41066666#32))
        (FloatOps.mulf (k0_pay6 j) (Scalar.ofBits .f32 0x41000000#32))) (Scalar.ofBits .f32 0x3E4CCCCD#32))
      (Scalar.select (IntOp.cmpi .eq (rowsV j) (BitVec.ofNat 32 1))
        (FloatOps.subf (FloatOps.addf (FloatOps.mulf (sg (Y j)) (Scalar.ofBits .f32 0x41066666#32))
          (FloatOps.mulf (FloatOps.sitofp .f32 (Scalar.select
            (IntOp.andi
              (IntOp.cmpi .ne (IntOp.subi (k0_pay8 j) ((k0_pay9 j).setWidth 32))
                (IntOp.subi ((IntOp.cmpi .sgt (64#32) 0#32).setWidth 32) ((IntOp.cmpi .slt (64#32) 0#32).setWidth 32)))
              (IntOp.cmpi .ne (IntOp.remsi .vector (cellsV j) 64#32) 0#32))
            (IntOp.subi (k0_pay7 j) 1#32) (k0_pay7 j))) (Scalar.ofBits .f32 0x41000000#32))) (Scalar.ofBits .f32 0x3E4CCCCD#32))
        (Scalar.select (IntOp.cmpi .eq (rowsV j) (BitVec.ofNat 32 2)) (FloatOps.mulf (FloatOps.exp (Y j)) (awOf (n % 18 / 6)))
          (Scalar.select (IntOp.cmpi .eq (rowsV j) (BitVec.ofNat 32 3)) (FloatOps.mulf (FloatOps.exp (Y j)) (ahOf (n % 18 / 6)))
            (Scalar.select (IntOp.cmpi .eq (rowsV j) (BitVec.ofNat 32 4)) (FloatOps.addf (Y j) (angOf (n % 18 % 6))) (sg (Y j)))))) = _
  simp only [pick_row j _ (show 0 < 2 ^ 31 by omega), pick_row j _ (show 1 < 2 ^ 31 by omega), pick_row j _ (show 2 < 2 ^ 31 by omega),
    pick_row j _ (show 3 < 2 ^ 31 by omega), pick_row j _ (show 4 < 2 ^ 31 by omega)]
  rw [gyW_at, gx_at]
  rfl

end Cert.Proof.Slab

end
-- ==== Proof.Region.lean ====
/-
  The TensorCore's pipeline inside the program: its body on the staged blocks, and what the whole pipeline leaves.
-/
module

public import proofs.«01_k».proof.Proof.Launch
public import proofs.«01_k».proof.Proof.Slab
public import proofs.«01_k».proof.Proof.Gen.KernelIdeal.Points
public import Idealize.ShloMosaic.Lib.Pipeline.Value
public import Idealize.ShloMosaic.Lib.Pipeline.FrameBody
public import Idealize.ShloMosaic.Lib.VecWindow

@[expose] public section

noncomputable section

namespace Cert.Proof.Run

open Cert.KernelIdeal Cert.KernelIdeal.Gen
open Cert.Proof.Decode Cert.Proof.Words Cert.Proof.Slab

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

attribute [local irreducible] Idealize.SL.BI.bigSep

/-! ## The body at a grid step -/

section

variable (i : grid0.Coords) (M0 : Memref sig .tc .vmem S1x86x4096 .f32) (h0 : M0.IsWhole) (M1 : Memref sig .tc .vmem S1x4096x86 .f32) (h1 : M1.IsWhole)

/-- Load the slab, load what the result's block held (nothing uses it), store the decoded slab. -/
theorem body_eq : cc0__tc_body (F := F) i M0 h0 M1 h1
    = Prog.op (.load M0 (Rect.unit (s := S1x86x4096) ![0, 0, 0] S1x86x4096.size inb_S1x86x4096_S1x86x4096_0_0_0).toLoadRect (View.loadsAt_vmem h_S1x86x4096))
        fun X => Prog.op (.load M1 (Rect.unit (s := S1x4096x86) ![0, 0, 0] S1x4096x86.size inb_S1x4096x86_S1x4096x86_0_0_0).toLoadRect (View.loadsAt_vmem h_S1x4096x86))
          fun _ => Prog.op (.store M1 (Rect.unit (s := S1x4096x86) ![0, 0, 0] S1x4096x86.size inb_S1x4096x86_S1x4096x86_0_0_0) (slabOf (i 0).val X) Finset.univ
            (View.stores_vmem_bits_univ h_S1x4096x86 rfl) (.inl rfl)) fun _ => .ret ⟨⟩ := by
  rw [cc0__tc_body_eq_skeleton]
  unfold cc0__tc_body_skel
  rw [k0_part1_eq_skeleton, k0_part2_eq_skeleton, k0_part3_eq_skeleton]
  rfl

theorem off_zero : (![0, 0, 0] : Fin 3 → ℕ) = fun _ => 0 := funext fun a => by fin_cases a <;> rfl

theorem body_run (d : Dev nD) (E : Set ℕ) (X : Vec F S1x86x4096 .f32) (Y : Vec F S1x4096x86 .f32) (Q : PUnit → sProp 𝕄) :
    iprop(owns (T d) M0 fullShare X ∗ owns (T d) M1 fullShare Y
        ∗ (iprop(owns (T d) M0 fullShare X ∗ owns (T d) M1 fullShare (slabOf (i 0).val X)) -∗ Q ⟨⟩))
      ⊢ wp frame (wpE (defs₀ (F := F)) 𝒱₀ (T d) none) E (cc0__tc_body (F := F) i M0 h0 M1 h1) Q := by
  rw [body_eq]
  unfold owns
  iintro ⟨⟨%f, %hf, H0⟩, ⟨%g, %hg, H1⟩, Hk⟩
  iapply (wp_load (defs := defs₀ (F := F)) 𝒱₀ (T d) none E (m := M0) (S := M0.view.set) (f := f) (q := fullShare) (M0.view.setOn_subset_set _)) $$ H0
  iintro H0
  iapply (wp_load (defs := defs₀ (F := F)) 𝒱₀ (T d) none E (m := M1) (S := M1.view.set) (f := g) (q := fullShare) (M1.view.setOn_subset_set _)) $$ H1
  iintro H1
  have hX : M0.view.readAt (Elt F) (Rect.unit (s := S1x86x4096) ![0, 0, 0] S1x86x4096.size inb_S1x86x4096_S1x86x4096_0_0_0).toLoadRect f = X := by
    rw [← hf]
    exact View.ld_unit_zero off_zero inb_S1x86x4096_S1x86x4096_0_0_0 (M0.view.read (Elt F) f)
  rw [hX]
  iapply (wp_store (defs := defs₀ (F := F)) 𝒱₀ (T d) none E (m := M1)
    (r := Rect.unit (s := S1x4096x86) ![0, 0, 0] S1x4096x86.size inb_S1x4096x86_S1x4096x86_0_0_0) (S := M1.view.set) (f := g)
    ((View.setOn_subset_set _ _).trans (View.set_slice_subset _ _))) $$ H1
  iintro H1
  rw [wp_ret]
  imodintro
  iapply Hk
  isplitl [H0]
  · iexists f; isplitr; swap; (· iexact H0); ipureintro; exact hf
  · iexists _; isplitr; swap; (· iexact H1); ipureintro
    exact View.read_writes_full M1.view g inb_S1x4096x86_S1x4096x86_0_0_0 (slabOf (i 0).val X) []

end

/-! ## The pipeline's data -/

section

variable (x : (d : Dev nD) → Buf (Elt F) (xLoc d)) (z0 : (d : Dev nD) → Buf (Elt F) (zLoc d))

/-- What the pipeline leaves in its result: slab by slab, decoded and transposed. -/
def zDone (x : FVec F S144x86x4096 .f32) : FVec F S104x4096x86 .f32 :=
  fun o => tcCell (o 0).val (o 1).val (o 2).val
    (x (Fin.cons ⟨(o 0).val, by have h : (o 0).val < 104 := (o 0).isLt; show _ < 144; omega⟩ (Fin.cons (o 2) (Fin.cons (o 1) finZeroElim))))

/-- The slab that grid step `t` takes. -/
abbrev slabIn (d : Dev nD) (t : Fin cfg0.N) : Vec F S1x86x4096 .f32 := ((cfg0.win 0).blk t).view.read (Elt F) (x d)

/-- The pipeline's records may only gain waits at the lowest level, so they stay where the call's own protocol wants them. -/
def dat (d : Dev nD) : Dat τ (Elt F) (HIx 1) ℕ UU ℕ cfg0 d where
  A w := match w with
    | ⟨0, _⟩ => x d
    | ⟨1, _⟩ => z0 d
  after w t := match w with
    | ⟨0, _⟩ => slabIn x d t
    | ⟨1, _⟩ => slabOf t.val (slabIn x d t)
  Φ _ := BI.emp
  q _ := fullShare
  owed _ := (K (F := F)).Otc d 0
  recorded _ := {p | (K (F := F)).lev (T d, p.1) p.2 ≤ 0}

theorem before_in (d : Dev nD) (t : Fin cfg0.N) (e : (cfg0.win 0).block.Idx → Elt F (cfg0.win 0).elt) :
    (dat x z0 d).before 0 t e = slabIn x d t := by
  unfold Dat.before; rw [if_pos (fetch0_0 t)]; rfl

theorem step_val (t : Fin cfg0.N) : (grid0.coords t 0).val = t.val := by
  revert t; decide +kernel

theorem body_obligation (d : Dev nD) : BodyObligation (dat x z0 d) (defs₀ (F := F)) 𝒱₀ none Set.univ := fun t => by
  rw [bigSep_W0, bigSep_W0]
  rw [show (dat x z0 d).Φ t.castSucc = BI.emp from rfl, show (dat x z0 d).Φ t.succ = BI.emp from rfl,
    show (dat x z0 d).owesAt none t.succ = (dat x z0 d).owesAt none t.castSucc from rfl]
  iintro ⟨-, Howes, ⟨%e0, H0⟩, ⟨%e1, H1⟩⟩
  rw [before_in]
  iapply (body_run (grid0.coords t) (win0_0.stage (cfg0.slots t 0)) (hstage0_0 ((cfg0.slots t 0).cast nbuf0_0)) (win0_1.stage (cfg0.slots t 1))
    (hstage0_1 ((cfg0.slots t 1).cast nbuf0_1)) d Set.univ (slabIn x d t) ((dat x z0 d).before 1 t e1) _)
  isplitl [H0]; · iexact H0
  isplitl [H1]; · iexact H1
  rw [step_val]
  iintro ⟨H0, H1⟩
  isplitr; · iempintro
  isplitl [Howes]; · iexact Howes
  isplitl [H0]; · iexact H0
  iexact H1

/-! ## What the pipeline leaves -/

/-- Number `p` of the block that grid step `t` takes, and of the one it writes back. -/
theorem slabIn_at (d : Dev nD) (t : Fin cfg0.N) (p : S1x86x4096.Idx) (ht : t.val < 144) :
    slabIn x d t p = x d (Fin.cons ⟨t.val, ht⟩ (Fin.cons (p 1) (Fin.cons (p 2) finZeroElim))) := by
  have hp : (p 0).val = 0 := by have h : (p 0).val < 1 := (p 0).isLt; omega
  rw [show slabIn x d t p = x d ((win0_0.rect t).emb p) from rfl]
  refine congrArg (x d) (funext fun a => Fin.ext ?_)
  rw [Pipeline.Window.rect_emb_val win0_0 t p a]
  have e : ∀ t : Fin cfg0.N, win0_0.index t 0 = t.val ∧ win0_0.index t 1 = 0 ∧ win0_0.index t 2 = 0 := by decide +kernel
  obtain ⟨e0, e1, e2⟩ := e t
  match a with
  | ⟨0, _⟩ => show win0_0.index t 0 * 1 + (p 0).val = t.val; omega
  | ⟨1, _⟩ => show win0_0.index t 1 * 86 + (p 1).val = (p 1).val; omega
  | ⟨2, _⟩ => show win0_0.index t 2 * 4096 + (p 2).val = (p 2).val; omega

theorem blkOut_at (G : FVec F S104x4096x86 .f32) (t : Fin cfg0.N) (p : S1x4096x86.Idx) (ht : t.val < 104) :
    ((cfg0.win 1).blk t).view.read (Elt F) G p = G (Fin.cons ⟨t.val, ht⟩ (Fin.cons (p 1) (Fin.cons (p 2) finZeroElim))) := by
  have hp : (p 0).val = 0 := by have h : (p 0).val < 1 := (p 0).isLt; omega
  rw [show ((cfg0.win 1).blk t).view.read (Elt F) G p = G ((win0_1.rect t).emb p) from rfl]
  refine congrArg G (funext fun a => Fin.ext ?_)
  rw [Pipeline.Window.rect_emb_val win0_1 t p a]
  have e : ∀ t : Fin cfg0.N, win0_1.index t 0 = t.val ∧ win0_1.index t 1 = 0 ∧ win0_1.index t 2 = 0 := by decide +kernel
  obtain ⟨e0, e1, e2⟩ := e t
  match a with
  | ⟨0, _⟩ => show win0_1.index t 0 * 1 + (p 0).val = t.val; omega
  | ⟨1, _⟩ => show win0_1.index t 1 * 4096 + (p 1).val = (p 1).val; omega
  | ⟨2, _⟩ => show win0_1.index t 2 * 86 + (p 2).val = (p 2).val; omega

theorem flushed_eq (d : Dev nD) (t : Fin cfg0.N) :
    (dat x z0 d).flushed 1 t = ((cfg0.win 1).blk t).view.read (Elt F) (zDone (x d)) := by
  have ht : t.val < 104 := t.isLt.trans_eq N_0
  funext p
  rw [blkOut_at (zDone (x d)) t p ht]
  show slabOf t.val (slabIn x d t) p = _
  rw [slab_at ht, slabIn_at x d t _ (by omega)]
  rfl

theorem mem_blkOut (t : Fin cfg0.N) (o : S104x4096x86.Idx) (h : (o 0).val = t.val) : o ∈ ((cfg0.win 1).blk t).view.set := by
  show o ∈ ((View.whole main_v1).slice (win0_1.rect t)).set
  rw [View.set_slice_whole, Rect.mem_set_unit]
  have h1 : (o 1).val < 4096 := (o 1).isLt
  have h2 : (o 2).val < 86 := (o 2).isLt
  have e : ∀ t : Fin cfg0.N, win0_1.index t 0 = t.val ∧ win0_1.index t 1 = 0 ∧ win0_1.index t 2 = 0 := by decide +kernel
  obtain ⟨e0, e1, e2⟩ := e t
  intro a
  match a with
  | ⟨0, _⟩ => show win0_1.index t 0 * 1 ≤ (o 0).val ∧ (o 0).val < win0_1.index t 0 * 1 + 1; omega
  | ⟨1, _⟩ => show win0_1.index t 1 * 4096 ≤ (o 1).val ∧ (o 1).val < win0_1.index t 1 * 4096 + 4096; omega
  | ⟨2, _⟩ => show win0_1.index t 2 * 86 ≤ (o 2).val ∧ (o 2).val < win0_1.index t 2 * 86 + 86; omega

theorem arr_final (d : Dev nD) : (dat x z0 d).arrAt 1 cfg0.N = zDone (x d) :=
  (dat x z0 d).arrAt_eq_of_cover 1 (zDone (x d)) (fun t _ => flushed_eq x z0 d t)
    fun o => ⟨⟨(o 0).val, (o 0).isLt.trans_eq N_0.symm⟩, flush0_1 _, mem_blkOut _ o rfl⟩

end

end Cert.Proof.Run

end
-- ==== Proof.Segment.lean ====
/-
  The pipeline as one step of the program on the TensorCore: from the input and a result at anything to the result decoded.
-/
module

public import proofs.«01_k».proof.Proof.Region
public import Idealize.ShloMosaic.Lib.Pipeline.Regions

@[expose] public section

noncomputable section

namespace Cert.Proof.Run

open Cert.KernelIdeal Cert.KernelIdeal.Gen
open Cert.Proof.Decode Cert.Proof.Words Cert.Proof.Slab

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

attribute [local irreducible] Idealize.SL.BI.bigSep

section

variable (x : (d : Dev nD) → Buf (Elt F) (xLoc d)) (z0 : (d : Dev nD) → Buf (Elt F) (zLoc d))

abbrev adm (p : Fin 1) : (pcfgs (F := F) p).Adm := (cfgs p).toPCfg_adm

/-- The program's one pipeline, at its entry contents. -/
def pdats : (p : Fin 1) → (d : Dev nD) → Dat τ (Elt F) (HIx 1) ℕ UU ℕ (Pipeline.pin (pcfgs (F := F)) adm p) d
  | ⟨0, _⟩ => fun d => dat x z0 d

omit [FloatOps F] in
theorem pin_inj : Function.Injective (cellOf (nD := nD) (τ := τ) (Pipeline.pin (pcfgs (F := F)) adm)) := cellOf_inj

omit [FloatOps F] in
/-- What the TensorCore owes before the call is never at the level the staging cells wait at. -/
theorem Otc_none (d : Dev nD) (n : ℕ) (g : GSem nD τ sig) : (K (F := F)).Otc d n g none = 0 := by
  by_contra h
  have h1 := (K (F := F)).lev_of_Otc_pos (Nat.pos_of_ne_zero h)
  rw [(K (F := F)).lev_none] at h1
  omega

/-- The TensorCore's debts to the call, with only waits at the lowest level on record. -/
def debts (d : Dev nD) : sProp 𝕄 := iprop(∃ W, ⌜(K (F := F)).WBelow (T d) W 0⌝ ∗ owes (T d) ((K (F := F)).Otc d 0) W)

theorem arrays_eq (d : Dev nD) (f : (w : Fin cfg0.W) → Buf (Elt F) ((SparseCore.T d).loc (Pipeline.arrRef cfg0.spec w))) :
    ((dat x z0 d).arrays f : sProp 𝕄) = iprop((xLoc d ↦{fullShare} f 0) ∗ (zLoc d ↦{fullShare} f 1)) := by
  unfold Dat.arrays
  rw [bigSep_W0, (dat x z0 d).share_full (fun _ => rfl) 0, (dat x z0 d).share_full (fun _ => rfl) 1]
  show iprop((_ ↦[(View.whole main_v0).set]{fullShare} f 0) ∗ (_ ↦[(View.whole main_v1).set]{fullShare} f 1)) = _
  rw [View.set_whole, View.set_whole]

set_option backward.isDefEq.respectTransparency.types false in
def seg : Pipeline.RegionSeg (pcfgs (F := F)) adm (pdats x z0) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation x z0 d).loose
  hwaits d := Pipeline.cellsWaits_intro _ _ none 0 d fun w s t => (K (F := F)).mayWait_none (thr := T d) _ (Otc_none d 0)
  pre d := iprop((xLoc d ↦{fullShare} x d) ∗ (zLoc d ↦{fullShare} z0 d) ∗ debts d)
  post d := iprop((xLoc d ↦{fullShare} x d) ∗ (zLoc d ↦{fullShare} zDone (x d)) ∗ debts d)
  X _ := BI.emp
  Y _ := BI.emp
  Z _ := BI.emp
  hentry d := by
    rw [Pipeline.ownSems0_none, show (pdats x z0 0 d) = dat x z0 d from rfl, arrays_eq]
    iintro ⟨⟨Hx, Hz, HO⟩, -, -⟩
    imodintro
    isplitl [Hx Hz]
    · isplitl [Hx]; · iexact Hx
      iexact Hz
    isplitr; · unfold Pipeline.prefHeld; rw [show (Finset.univ : Finset (Fin 0)) = ∅ from rfl, BI.bigSep_empty]; iempintro
    isplitl [HO]
    · unfold Pipeline.Dat.owesAt Pipeline.owesWithin debts
      icases HO with ⟨%W, %hW, HO⟩; iexists W; isplitr; · ipureintro; exact fun p hp => Or.inl (hW p hp)
      iexact HO
    isplitr; · iempintro
    iempintro
  hin d := by
    rw [show (pdats x z0 0 d).Φ 0 = BI.emp from rfl]
    iintro -; iempintro
  hout d := by
    rw [Pipeline.ownSems0_none, show (Pipeline.scopedRest (Pipeline.pin (pcfgs (F := F)) adm 0).spec d : sProp 𝕄) = BI.emp from scopedRest0_eq d]
    iintro -
    isplitr; · iempintro
    isplitr <;> iempintro
  hexit d := by
    rw [show (pdats x z0 0 d) = dat x z0 d from rfl, arrays_eq,
      show (dat x z0 d).arrAt 0 (Pipeline.pin (pcfgs (F := F)) adm 0).N = x d from (dat x z0 d).arrAt_in 0 rfl _,
      show (dat x z0 d).arrAt 1 (Pipeline.pin (pcfgs (F := F)) adm 0).N = zDone (x d) from arr_final x z0 d]
    iintro ⟨⟨Hx, Hz⟩, HO, -, -⟩
    imodintro
    isplitl [Hx]; · iexact Hx
    isplitl [Hz]; · iexact Hz
    unfold Pipeline.Dat.owesAt Pipeline.owesWithin debts
    icases HO with ⟨%W, %hW, HO⟩; iexists W; isplitr
    · ipureintro
      intro p hp
      rcases hW hp with h | ⟨w, s, h⟩
      · exact h
      · rw [h]; exact le_of_eq ((K (F := F)).lev_none _)
    iexact HO

/-- What the launch deals device `d` for the pipeline's staging cells. -/
abbrev deals (d : Dev nD) : sProp 𝕄 :=
  iprop(Pipeline.cellsGhost (Pipeline.pin (pcfgs (F := F)) adm) EP 0 d ∗ Pipeline.toksInit (Pipeline.pin (pcfgs (F := F)) adm) EP 0 d)

theorem wp_pipeline [∀ e, Nonempty (Elt F e)] (d : Dev nD) (Q : PUnit → sProp 𝕄) :
    iprop((iprop(boundary (T d) ∗ (xLoc d ↦{fullShare} x d) ∗ (zLoc d ↦{fullShare} zDone (x d)) ∗ debts d) -∗ Q ⟨⟩)
        ∗ boundary (T d) ∗ iprop((xLoc d ↦{fullShare} x d) ∗ (zLoc d ↦{fullShare} z0 d) ∗ debts d)
        ∗ levAts (K (F := F)).L (K (F := F)).lev ∗ deals d)
      ⊢ wp frame (wpE ((K (F := F)).defs (D (F := F))) 𝒱 (T d) none) Set.univ
          (Prog.lift (.customCall (SparseCore.inner (Pipeline.entry 0)) ())) Q := by
  have hl := (K (F := F)).wp_liftProg (D (F := F)) 𝒱 (T d) Set.univ none (.op (.customCall (Pipeline.entry 0) ()) .ret) Q
  rw [SparseCore.liftProg_op] at hl
  simp only [SparseCore.liftProg_ret] at hl
  refine BI.Entails.trans ?_ hl
  have h := Pipeline.RegionSeg.wp pcfgs adm (pdats x z0) none pin_inj EP defs₀ 𝒱₀ (K (F := F)).L (K (F := F)).lev
    (seg x z0) d none (fun u hu => absurd hu (Option.not_mem_none u)) .ret Q
  refine BI.Entails.trans ?_ h
  rw [show (seg x z0).pre d = iprop((xLoc d ↦{fullShare} x d) ∗ (zLoc d ↦{fullShare} z0 d) ∗ debts d) from rfl,
    show (seg x z0).post d = iprop((xLoc d ↦{fullShare} x d) ∗ (zLoc d ↦{fullShare} zDone (x d)) ∗ debts d) from rfl]
  change (_ : sProp 𝕄) ⊢ (_ : sProp 𝕄)
  iintro ⟨Hk, Hb, Hpre, Hl, Hg, Ht⟩
  isplitl [Hk]
  · iintro H
    rw [wp_ret]
    imodintro
    iapply Hk; iexact H
  isplitl [Hb]; · iexact Hb
  isplitl [Hpre]; · iexact Hpre
  isplitl [Hl]; · iexact Hl
  isplitl [Hg]; · iexact Hg
  iexact Ht

end

end Cert.Proof.Run

end
-- ==== Proof.Main.lean ====
/-
  The whole program: its operations in order, from the launch memory to the result, and what it leaves on every device.
-/
module

public import proofs.«01_k».proof.Proof.Segment
public import Idealize.ShloMosaic.Lib.SparseCore.Quiescent
public import Idealize.ShloMosaic.Lib.StableHlo.Run

@[expose] public section

noncomputable section

namespace Cert.Proof.Run

open Cert.KernelIdeal Cert.KernelIdeal.Gen
open Cert.Proof.Decode Cert.Proof.Words Cert.Proof.Slab

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

attribute [local irreducible] Idealize.SL.BI.bigSep

open Idealize.ShloMosaic.StableHlo (held wp_hlo_within)

/-! ## The launch element -/

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

omit [FloatOps F] in
theorem own_parts (a : UH) (b : UK) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

omit [FloatOps F] in
theorem one_pipeline (Φ : Fin 1 → Dev nD → sProp 𝕄) :
    (bigSep Finset.univ fun d : Dev nD => bigSep Finset.univ fun p : Fin 1 => Φ p d) = bigSep Finset.univ fun d : Dev nD => Φ 0 d :=
  bigSep_congr fun _ _ => bigSep_univ_of_subsingleton (0 : Fin 1)

omit [FloatOps F] in
theorem all_emp {I : Type} (s : Finset I) : (bigSep s fun _ => iprop(emp)) = (iprop(emp) : sProp 𝕄) := bigSep_emp_const s

section

variable (x : (d : Dev nD) → Buf (Elt F) (xLoc d)) (y0 : (d : Dev nD) → Buf (Elt F) (yLoc d))

theorem hu₀ : (ownU (u₀ (F := F)) : sProp 𝕄)
    ⊢ |={Set.univ}=> iprop(BI.own (EH (initOf (K (F := F)).hsCells (K (F := F)).hsToks)) ∗ (bigSep Finset.univ fun d : Dev nD => deals d)
        ∗ bigSep Finset.univ fun thr : Thread nD τ => bigSep Finset.univ fun q : Fin 1 => (P x y0).x q thr) := by
  unfold u₀
  iintro Hu
  ihave H := (own_parts _ _) $$ Hu
  icases H with ⟨HH, HP⟩
  imod (Pipeline.fund_ghost (Pipeline.pin (pcfgs (F := F)) adm) EP pin_inj) $$ HP with ⟨Hg, Ht⟩
  imodintro
  isplitl [HH]; · iexact HH
  isplitl [Hg Ht]
  · unfold deals
    rw [bigSep_sep']
    isplitl [Hg]
    · iapply (Entails.of_eq (one_pipeline (F := F) fun p d => Pipeline.cellsGhost (Pipeline.pin (pcfgs (F := F)) adm) EP p d)); iexact Hg
    · iapply (Entails.of_eq (one_pipeline (F := F) fun p d => Pipeline.toksInit (Pipeline.pin (pcfgs (F := F)) adm) EP p d)); iexact Ht
  · rw [show (fun thr : Thread nD τ => bigSep Finset.univ fun q : Fin 1 => (P x y0).x q thr) = fun _ => iprop(emp) from
      funext fun thr => bigSep_univ_of_subsingleton (0 : Fin 1), all_emp]
    iempintro

end

omit [FloatOps F] in
/-- The TensorCore's state before the call gives its debts, for as long as a step needs them. -/
theorem tcSt_debts (d : Dev nD) : ((K (F := F)).tcSt EH d 0 : sProp 𝕄) ⊢ iprop(debts d ∗ (debts d -∗ (K (F := F)).tcSt EH d 0)) := by
  unfold SparseCore.Cfg.tcSt debts
  iintro ⟨HO, Hrest⟩
  isplitl [HO]; · iexact HO
  iintro HO
  isplitl [HO]; · iexact HO
  iexact Hrest

/-! ## The arrays -/

abbrev bA : DevRef τ sig := Proc.devRef .tc (main_arg0 : Ref sig .tc)
abbrev b0 : DevRef τ sig := Proc.devRef .tc (main_v0 : Ref sig .tc)
abbrev b1 : DevRef τ sig := Proc.devRef .tc (main_v1 : Ref sig .tc)
abbrev b2 : DevRef τ sig := Proc.devRef .tc (main_v2 : Ref sig .tc)
abbrev b3 : DevRef τ sig := Proc.devRef .tc (main_v3 : Ref sig .tc)
abbrev b4 : DevRef τ sig := Proc.devRef .tc (main_v4 : Ref sig .tc)
abbrev b5 : DevRef τ sig := Proc.devRef .tc (main_v5 : Ref sig .tc)
abbrev b6 : DevRef τ sig := Proc.devRef .tc (main_v6 : Ref sig .tc)

abbrev op0 : HloOp τ sig (Elt F) := StableHlo.reshape main_arg0 main_v0 (rfl : (.f32 : EltTy) = .f32) shapeCasts_S8x1548x64x64_S144x86x4096
abbrev op3 : HloOp τ sig (Elt F) := StableHlo.reshape main_v1 main_v3 (rfl : (.f32 : EltTy) = .f32) shapeCasts_S104x4096x86_S104x352256
abbrev op4 : HloOp τ sig (Elt F) := StableHlo.reshape main_v2 main_v4 (rfl : (.f32 : EltTy) = .f32) shapeCasts_S40x16x22016_S40x352256
/-- The two parts of the result, one after the other. -/
abbrev joined (a : FVec F S104x352256 .f32) (b : FVec F S40x352256 .f32) : FVec F S144x352256 .f32 :=
  concatenate S144x352256 0 [⟨S104x352256, a⟩, ⟨S40x352256, b⟩] concatenates_S104x352256_S40x352256_S144x352256_d0
abbrev op5 : HloOp τ sig (Elt F) := StableHlo.binary main_v3 main_v4 main_v5 (joined (F := F))
abbrev op6 : HloOp τ sig (Elt F) := StableHlo.reshape main_v5 main_v6 (rfl : (.f32 : EltTy) = .f32) shapeCasts_S144x352256_S8x73728x86

/-- The program's arrays: its argument and its seven tensor values. -/
abbrev arrs : Finset (DevRef τ sig) := {bA, b0, b1, b2, b3, b4, b5, b6}

omit [FloatOps F] in
theorem held_arrs (d : Dev nD) (W : Valuation τ sig (Elt F)) :
    (held (SparseCore.T d) arrs W : sProp 𝕄)
      = iprop(((SparseCore.T d).loc main_arg0 ↦{fullShare} W bA) ∗ (xLoc d ↦{fullShare} W b0) ∗ (zLoc d ↦{fullShare} W b1) ∗ (yLoc d ↦{fullShare} W b2)
          ∗ ((SparseCore.T d).loc main_v3 ↦{fullShare} W b3) ∗ ((SparseCore.T d).loc main_v4 ↦{fullShare} W b4)
          ∗ ((SparseCore.T d).loc main_v5 ↦{fullShare} W b5) ∗ (SparseCore.T d).loc main_v6 ↦{fullShare} W b6) := by
  unfold held arrs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

variable (m : (ℓ : Loc nD τ sig) → Buf (Elt F) ℓ) (ρ : Dev nD → PrngReg)

/-- The arrays at launch, and once the argument is cut into slabs. -/
def at0 (d : Dev nD) : Valuation τ sig (Elt F) := fun b => m (d, b)
def at1 (d : Dev nD) : Valuation τ sig (Elt F) := (op0 (F := F)).result (at0 m d)

omit [FloatOps F] in
theorem unscoped_arrs (d : Dev nD) : (unscopedBufs d (fun b => m ((SparseCore.T d).loc b)) : sProp 𝕄) = held (SparseCore.T d) arrs (at0 m d) := by
  rw [held_arrs]
  unfold unscopedBufs
  rw [show (Finset.univ.filter fun b : Ref sig .tc => ¬ b.isScoped) = {main_arg0, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-- What the two kernels are handed: the slabs, and the contents their results had. -/
def xs (d : Dev nD) : Buf (Elt F) (xLoc d) := at1 m d b0
def zs (d : Dev nD) : Buf (Elt F) (zLoc d) := at1 m d b1
def ys (d : Dev nD) : Buf (Elt F) (yLoc d) := at1 m d b2

/-- The arrays once both kernels are done, and at the end. -/
def at2 (d : Dev nD) : Valuation τ sig (Elt F) := Function.update (Function.update (at1 m d) b1 (zDone (xs m d))) b2 (yDone (xs m d))
def at6 (d : Dev nD) : Valuation τ sig (Elt F) := (op6 (F := F)).result ((op5 (F := F)).result ((op4 (F := F)).result ((op3 (F := F)).result (at2 m d))))

theorem at2_b1 (d : Dev nD) : at2 m d b1 = zDone (xs m d) := by
  unfold at2; rw [Function.update_of_ne (show b1 ≠ b2 by decide), Function.update_self]
theorem at2_b2 (d : Dev nD) : at2 m d b2 = yDone (xs m d) := by unfold at2; rw [Function.update_self]
theorem at2_ne (d : Dev nD) (b : DevRef τ sig) (h1 : b ≠ b1) (h2 : b ≠ b2) : at2 m d b = at1 m d b := by
  unfold at2; rw [Function.update_of_ne h2, Function.update_of_ne h1]

/-- What the program returns. -/
def out (d : Dev nD) : FVec F S8x73728x86 .f32 :=
  shapeCast S8x73728x86 (joined (shapeCast S104x352256 (zDone (xs m d)) shapeCasts_S104x4096x86_S104x352256)
    (shapeCast S40x352256 (yDone (xs m d)) shapeCasts_S40x16x22016_S40x352256)) shapeCasts_S144x352256_S8x73728x86

omit [FloatOps F] in
theorem xs_eq (d : Dev nD) : xs m d = shapeCast S144x86x4096 (m ((SparseCore.T d).loc main_arg0)) shapeCasts_S8x1548x64x64_S144x86x4096 :=
  show (op0 (F := F)).result (at0 m d) b0 = shapeCast S144x86x4096 (at0 m d bA) _ from StableHlo.reshape_result' _ _ _ _ _

theorem at6_out (d : Dev nD) : at6 m d b6 = out m d := by
  unfold at6
  rw [show (op6 (F := F)).result ((op5 (F := F)).result ((op4 (F := F)).result ((op3 (F := F)).result (at2 m d)))) b6
      = shapeCast S8x73728x86 ((op5 (F := F)).result ((op4 (F := F)).result ((op3 (F := F)).result (at2 m d))) b5) shapeCasts_S144x352256_S8x73728x86 from
      StableHlo.reshape_result' _ _ _ _ _,
    show (op5 (F := F)).result ((op4 (F := F)).result ((op3 (F := F)).result (at2 m d))) b5
      = joined ((op4 (F := F)).result ((op3 (F := F)).result (at2 m d)) b3) ((op4 (F := F)).result ((op3 (F := F)).result (at2 m d)) b4) from
      StableHlo.binary_result' _ _ _ _ _,
    (op4 (F := F)).result_of_not_mem _ (show b3 ∉ ({b4} : Finset (DevRef τ sig)) by decide),
    show (op3 (F := F)).result (at2 m d) b3 = shapeCast S104x352256 (at2 m d b1) shapeCasts_S104x4096x86_S104x352256 from
      StableHlo.reshape_result' _ _ _ _ _,
    show (op4 (F := F)).result ((op3 (F := F)).result (at2 m d)) b4
      = shapeCast S40x352256 ((op3 (F := F)).result (at2 m d) b2) shapeCasts_S40x16x22016_S40x352256 from
      StableHlo.reshape_result' _ _ _ _ _,
    (op3 (F := F)).result_of_not_mem _ (show b2 ∉ ({b3} : Finset (DevRef τ sig)) by decide), at2_b1, at2_b2]
  rfl

theorem at6_arg (d : Dev nD) : at6 m d bA = m ((SparseCore.T d).loc main_arg0) := by
  unfold at6
  rw [(op6 (F := F)).result_of_not_mem _ (show bA ∉ ({b6} : Finset (DevRef τ sig)) by decide),
    (op5 (F := F)).result_of_not_mem _ (show bA ∉ ({b5} : Finset (DevRef τ sig)) by decide),
    (op4 (F := F)).result_of_not_mem _ (show bA ∉ ({b4} : Finset (DevRef τ sig)) by decide),
    (op3 (F := F)).result_of_not_mem _ (show bA ∉ ({b3} : Finset (DevRef τ sig)) by decide),
    at2_ne m d bA (by decide) (by decide)]
  unfold at1
  rw [(op0 (F := F)).result_of_not_mem _ (show bA ∉ ({b0} : Finset (DevRef τ sig)) by decide)]
  rfl

theorem sub0 : (op0 (F := F)).bufs ⊆ arrs := show ({bA, b0} : Finset (DevRef τ sig)) ⊆ arrs by decide
theorem sub3 : (op3 (F := F)).bufs ⊆ arrs := show ({b1, b3} : Finset (DevRef τ sig)) ⊆ arrs by decide
theorem sub4 : (op4 (F := F)).bufs ⊆ arrs := show ({b2, b4} : Finset (DevRef τ sig)) ⊆ arrs by decide
theorem sub5 : (op5 (F := F)).bufs ⊆ arrs := show ({b3, b4, b5} : Finset (DevRef τ sig)) ⊆ arrs by decide
theorem sub6 : (op6 (F := F)).bufs ⊆ arrs := show ({b5, b6} : Finset (DevRef τ sig)) ⊆ arrs by decide

/-- What the claims read at the end: the argument as it was, the result at `out`. -/
abbrev FIN (d : Dev nD) : sProp 𝕄 :=
  iprop(((SparseCore.T d).loc main_arg0 ↦{fullShare} m ((SparseCore.T d).loc main_arg0)) ∗ (SparseCore.T d).loc main_v6 ↦{fullShare} out m d)

theorem hmain [∀ e, Nonempty (Elt F e)] (κ : GSem nD τ sig → ℕ) (d : Dev nD) :
    iprop((K (F := F)).ctx EH (P (xs m) (ys m)) κ ∗ (K (F := F)).tcSt EH d 0 ∗ (K (F := F)).tcRes m ρ d ∗ deals d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrs]
  simp only [main, wp_bind, wp_pure]
  iintro ⟨#Hctx, Hst, ⟨Hb, Hheld, Hts, -⟩, Hdeal⟩
  ihave Hlev := (SparseCore.Cfg.ctx_levAts κ) $$ Hctx
  iapply (wp_hlo_within 𝒱 (SparseCore.T d) none Set.univ (op := op0) (S := arrs) sub0 (V := at0 m d)) $$ [Hb Hheld]
  · isplitl [Hb] <;> iassumption
  iintro ⟨Hb, Hheld⟩
  rw [wp_ret]; imodintro
  -- the pipeline
  ihave Hh := (Entails.of_eq (show held (SparseCore.T d) arrs ((op0 (F := F)).result (at0 m d)) = _ from held_arrs (F := F) d (at1 m d))) $$ Hheld
  icases Hh with ⟨HA, H0, H1, H2, H3, H4, H5, H6⟩
  ihave Hs := (tcSt_debts (F := F) d) $$ Hst
  icases Hs with ⟨HO, Hst⟩
  iapply (wp_pipeline (xs m) (zs m) d)
  isplitr [Hb H0 H1 HO Hdeal]; swap
  · isplitl [Hb]; · iexact Hb
    isplitl [H0 H1 HO]
    · isplitl [H0]; · iexact H0
      isplitl [H1]; · iexact H1
      iexact HO
    isplitr; · iexact Hlev
    iexact Hdeal
  iintro ⟨Hb, H0, H1, HO⟩
  ihave Hst := Hst $$ HO
  -- the SparseCores' call
  iapply ((K (F := F)).wp_run (D (F := F)) 𝒱 (EH := EH) (P := P (xs m) (ys m)) κ d 0)
  isplitr; · iexact Hctx
  isplitl [Hst]; · iexact Hst
  isplitl [H0 H2]
  · rw [st_eq]
    isplitl [H0]; · iexact H0
    iexact H2
  iintro ⟨Hst, Hdn⟩
  ihave Hdn' := (Entails.of_eq (dn_eq (xs m) (ys m) d)) $$ Hdn
  icases Hdn' with ⟨H0, H2⟩
  -- the two parts joined
  iapply (wp_hlo_within 𝒱 (SparseCore.T d) none Set.univ (op := op3) (S := arrs) sub3 (V := at2 m d)) $$ [Hb HA H0 H1 H2 H3 H4 H5 H6]
  · isplitl [Hb]; · iexact Hb
    rw [held_arrs, at2_b1, at2_b2, at2_ne m d bA (by decide) (by decide), at2_ne m d b0 (by decide) (by decide), at2_ne m d b3 (by decide) (by decide),
      at2_ne m d b4 (by decide) (by decide), at2_ne m d b5 (by decide) (by decide), at2_ne m d b6 (by decide) (by decide)]
    isplitl [HA]; · iexact HA
    isplitl [H0]; · iexact H0
    isplitl [H1]; · iexact H1
    isplitl [H2]; · iexact H2
    isplitl [H3]; · iexact H3
    isplitl [H4]; · iexact H4
    isplitl [H5]; · iexact H5
    iexact H6
  iintro ⟨Hb, Hheld⟩
  rw [wp_ret]; imodintro
  iapply (wp_hlo_within 𝒱 (SparseCore.T d) none Set.univ (op := op4) (S := arrs) sub4 (V := (op3 (F := F)).result (at2 m d))) $$ [Hb Hheld]
  · isplitl [Hb] <;> iassumption
  iintro ⟨Hb, Hheld⟩
  rw [wp_ret]; imodintro
  iapply (wp_hlo_within 𝒱 (SparseCore.T d) none Set.univ (op := op5) (S := arrs) sub5 (V := (op4 (F := F)).result ((op3 (F := F)).result (at2 m d)))) $$ [Hb Hheld]
  · isplitl [Hb] <;> iassumption
  iintro ⟨Hb, Hheld⟩
  rw [wp_ret]; imodintro
  iapply (wp_hlo_within 𝒱 (SparseCore.T d) none Set.univ (op := op6) (S := arrs) sub6
    (V := (op5 (F := F)).result ((op4 (F := F)).result ((op3 (F := F)).result (at2 m d))))) $$ [Hb Hheld]
  · isplitl [Hb] <;> iassumption
  iintro ⟨Hb, Hheld⟩
  ihave Hh := (Entails.of_eq (show held (SparseCore.T d) arrs ((op6 (F := F)).result ((op5 (F := F)).result ((op4 (F := F)).result ((op3 (F := F)).result (at2 m d))))) = _
    from held_arrs (F := F) d (at6 m d))) $$ Hheld
  rw [at6_arg, at6_out]
  icases Hh with ⟨HA, -, -, -, -, -, -, H6⟩
  rw [wp_ret]; imodintro; imodintro
  isplitl [Hst]; · iexact Hst
  isplitr [Hb Hts]
  · isplitl [HA]; · iexact HA
    iexact H6
  isplitl [Hb] <;> iassumption

/-! ## The run -/

def fq (d : Dev nD) (s' : Phys nD τ sig (Elt F)) : Prop :=
  s'.mem.mem ((SparseCore.T d).loc main_v6) = out m d ∧ s'.mem.mem ((SparseCore.T d).loc main_arg0) = m ((SparseCore.T d).loc main_arg0)

theorem hfin (d : Dev nD) (s' : Phys nD τ sig (Elt F)) : iprop(FIN m d ∗ SI s') ⊢ (⌜fq m d s'⌝ : sProp 𝕄) := by
  iintro ⟨⟨HA, H6⟩, HSI⟩
  ihave H := (persistent_entails_right (SI_pointsTo_agree (st := s') (ℓ := (SparseCore.T d).loc main_arg0) (I := Finset.univ) (q := fullShare)
    (f := m ((SparseCore.T d).loc main_arg0)))) $$ [HSI HA]
  · isplitl [HSI] <;> iassumption
  icases H with ⟨%hA, HSI, -⟩
  ihave H := (SI_pointsTo_agree (st := s') (ℓ := (SparseCore.T d).loc main_v6) (I := Finset.univ) (q := fullShare) (f := out m d)) $$ [HSI H6]
  · isplitl [HSI] <;> iassumption
  icases H with %h6
  ipureintro; exact ⟨funext fun i => h6 i (Finset.mem_univ i), funext fun i => hA i (Finset.mem_univ i)⟩

/-- What every run of the program ends in: the result at `out`, the argument as it was, every semaphore at zero. -/
def Ends : PUnit × MemSt nD τ sig (Elt F) → Prop := fun r =>
  (∀ d : Dev nD, r.2.mem ((SparseCore.T d).loc main_v6) = out m d ∧ r.2.mem ((SparseCore.T d).loc main_arg0) = m ((SparseCore.T d).loc main_arg0))
    ∧ r.2.sem = fun _ => 0

theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (xs m) (ys m)) (A := ∅) facts v₀
    (fun q hq => match q with | 0 => nomatch hq)
    (fun q _ => match q with | 0 => tileObl (xs m) (ys m) facts)
    (fun q _ => match q with | 0 => SparseCore.Cfg.VecSplit.of_plain (vecSplit (xs m) (ys m)))
    m ρ main (fun d => deals d) (FIN m) (u₀ (F := F)) (sep_elim_left.trans (hu₀ (xs m) (ys m))) (hmain m ρ) (fq m) (hfin m) (Ends m) (fun _ h hz => ⟨h, hz⟩)

end Cert.Proof.Run

end
-- ==== Proof.Same.lean ====
/- The two printed forms of the kernel, the compiled one and the one read over the extended reals, have one text: their
   tables of bodies are equal, so what is proved of one holds of the other. -/
module

public import proofs.«01_k».proof.Proof.Gen.Kernel
public import proofs.«01_k».proof.Proof.Gen.KernelIdeal

@[expose] public section

noncomputable section

namespace Cert.Proof.Same

open Idealize.ShloMosaic

variable {F : FTy → Type} [FloatOps F]

attribute [local instance] Cert.Kernel.Gen.facts Cert.KernelIdeal.Gen.facts

/-- The kernels' bodies: each label on each processor runs the same program. -/
theorem bodies : Cert.Kernel.defs₀ (F := F) = Cert.KernelIdeal.defs₀ (F := F) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

/-- So do the launches around them. -/
theorem tables : Cert.Kernel.defs (F := F) = Cert.KernelIdeal.defs (F := F) :=
  congrArg (fun b => Cert.KernelIdeal.sc.defs (Pipeline.defs Cert.KernelIdeal.pcfgs b)) bodies

end Cert.Proof.Same

end
-- ==== Proof.Plain.lean ====
/-
  The reference, read element by element: each of its arrays as a function of the argument's elements, then the result.
-/
module

public import proofs.«01_k».proof.Proof.Gen.ReferenceIdeal.Run
public import Idealize.ShloMosaic.Lib.Pointwise

@[expose] public section

noncomputable section

namespace Cert.Proof.Plain

open Cert.ReferenceIdeal Cert.ReferenceIdeal.Gen Idealize.ShloMosaic

variable {F : FTy → Type} [FloatOps F]

/-- The argument as the reference first lays it out: image, anchor, row, column, channel. -/
def slabs (X : FVec F S8x1548x64x64 .f32) : FVec F S8x18x64x64x86 .f32 :=
  transpose S8x18x64x64x86 [0, 1, 3, 4, 2] (shapeCast _ X shapeCasts_S8x1548x64x64_S8x18x86x64x64)
    transposes_S8x18x86x64x64_S8x18x64x64x86_0_1_3_4_2

theorem slabs_at (X : FVec F S8x1548x64x64 .f32) (b : Fin 8) (a : Fin 18) (y x : Fin 64) (c : Fin 86) :
    slabs X (ix5 b a y x c) = X (ix4 b ⟨a.val * 86 + c.val, by omega⟩ y x) := by
  pointwise [slabs]

/-- One channel of it. -/
def channel (k : ℕ) (h : S8x18x64x64x86.Slices ![0, 0, 0, 0, k] S8x18x64x64x1) (X : FVec F S8x1548x64x64 .f32) : FVec F S8x18x64x64 .f32 :=
  shapeCast _ (extractStridedSlice S8x18x64x64x1 ![0, 0, 0, 0, k] (slabs X) h) shapeCasts_S8x18x64x64x1_S8x18x64x64

theorem channel_at (k : ℕ) (hk : k < 86) (h : S8x18x64x64x86.Slices ![0, 0, 0, 0, k] S8x18x64x64x1) (X : FVec F S8x1548x64x64 .f32)
    (b : Fin 8) (a : Fin 18) (y x : Fin 64) : channel k h X (ix4 b a y x) = X (ix4 b ⟨a.val * 86 + k, by omega⟩ y x) := by
  rw [← slabs_at X b a y x ⟨k, hk⟩]
  pointwise [channel]

/-- The logistic function, element by element. -/
def logistic (v : FVec F S8x18x64x64 .f32) : FVec F S8x18x64x64 .f32 :=
  Host.divf (broadcastInDim S8x18x64x64 ![] bcast_S_S8x18x64x64 (constant S_ .f32 0x3F800000#32))
    (addf (broadcastInDim S8x18x64x64 ![] bcast_S_S8x18x64x64 (constant S_ .f32 0x3F800000#32)) (Host.exp (Host.negf v)))

/-- The number of each cell's column, and of its row. -/
def lines : FVec F S64x64 .f32 :=
  shapeCast _ (broadcastInDim S64x1x1x64 ![0, 1, 2, 3] bcast_S1x1x1x64_S64x1x1x64_0_1_2_3
    (shapeCast _ (broadcastInDim S1x64 ![1] bcast_S64_S1x64_1 (sitofp .f32 (iotaInDim S64 32 0))) shapeCasts_S1x64_S1x1x1x64)) shapeCasts_S64x1x1x64_S64x64

theorem lines_at (y x : Fin 64) : lines (F := F) (ix2 y x) = FloatOps.sitofp .f32 (BitVec.ofNat 32 x.val) := by
  pointwise [lines]

def overAll (v : FVec F S64x64 .f32) : FVec F S8x18x64x64 .f32 :=
  broadcastInDim S8x18x64x64 ![0, 1, 2, 3] bcast_S1x1x64x64_S8x18x64x64_0_1_2_3 (shapeCast _ v shapeCasts_S64x64_S1x1x64x64)

theorem overAll_at (v : FVec F S64x64 .f32) (b : Fin 8) (a : Fin 18) (y x : Fin 64) : overAll v (ix4 b a y x) = v (ix2 y x) := by
  pointwise [overAll]

/-- A column of the table of anchors: its three numbers are the width, the height and the angle. -/
def anchors (k : ℕ) (h : S18x3.Slices ![0, k] S18x1) : FVec F S8x18x64x64 .f32 :=
  broadcastInDim S8x18x64x64 ![0, 1, 2, 3] bcast_S1x18x1x1_S8x18x64x64_0_1_2_3
    (shapeCast _ (shapeCast _ (extractStridedSlice S18x1 ![0, k] ((fun i => FloatOps.ofBits .f32 (lit0 (S18x3.rowMajor i)))) h) shapeCasts_S18x1_S18) shapeCasts_S18_S1x18x1x1)

theorem anchors_at (k : Fin 3) (h : S18x3.Slices ![0, k.val] S18x1) (b : Fin 8) (a : Fin 18) (y x : Fin 64) :
    anchors (F := F) k.val h (ix4 b a y x) = FloatOps.ofBits .f32 (lit0 (S18x3.rowMajor (ix2 a k))) := by
  pointwise [anchors]

/-- The first two channels' boxes, in cells. -/
def place (v g : FVec F S8x18x64x64 .f32) : FVec F S8x18x64x64 .f32 :=
  addf (subf (mulf (logistic v) (broadcastInDim S8x18x64x64 ![] bcast_S_S8x18x64x64 (constant S_ .f32 0x3F866666#32)))
    (broadcastInDim S8x18x64x64 ![] bcast_S_S8x18x64x64 (constant S_ .f32 0x3CCCCCCD#32))) g

/-- Four arrays side by side as the channels of one. -/
def stack (u0 u1 u2 u3 : FVec F S8x18x64x64 .f32) : FVec F S8x73728x4 .f32 :=
  mulf (shapeCast _ (concatenate S8x18x64x64x4 4
      [⟨S8x18x64x64x1, broadcastInDim S8x18x64x64x1 ![0, 1, 2, 3] bcast_S8x18x64x64_S8x18x64x64x1_0_1_2_3 u0⟩,
       ⟨S8x18x64x64x1, broadcastInDim S8x18x64x64x1 ![0, 1, 2, 3] bcast_S8x18x64x64_S8x18x64x64x1_0_1_2_3 u1⟩,
       ⟨S8x18x64x64x1, broadcastInDim S8x18x64x64x1 ![0, 1, 2, 3] bcast_S8x18x64x64_S8x18x64x64x1_0_1_2_3 u2⟩,
       ⟨S8x18x64x64x1, broadcastInDim S8x18x64x64x1 ![0, 1, 2, 3] bcast_S8x18x64x64_S8x18x64x64x1_0_1_2_3 u3⟩]
      concatenates_S8x18x64x64x1_S8x18x64x64x1_S8x18x64x64x1_S8x18x64x64x1_S8x18x64x64x4_d4) shapeCasts_S8x18x64x64x4_S8x73728x4)
    (broadcastInDim S8x73728x4 ![] bcast_S_S8x73728x4 (constant S_ .f32 0x41000000#32))

/-- The classes' channels. -/
def classes (X : FVec F S8x1548x64x64 .f32) : FVec F S8x18x64x64x80 .f32 :=
  Host.divf (broadcastInDim S8x18x64x64x80 ![] bcast_S_S8x18x64x64x80 (constant S_ .f32 0x3F800000#32))
    (addf (broadcastInDim S8x18x64x64x80 ![] bcast_S_S8x18x64x64x80 (constant S_ .f32 0x3F800000#32))
      (Host.exp (Host.negf (extractStridedSlice S8x18x64x64x80 ![0, 0, 0, 0, 6] (slabs X) slices_S8x18x64x64x86_S8x18x64x64x80_0_0_0_0_6))))

/-- The result, from its parts. -/
def join (p : FVec F S8x73728x4 .f32) (q r : FVec F S8x18x64x64 .f32) (s : FVec F S8x18x64x64x80 .f32) : FVec F S8x73728x86 .f32 :=
  concatenate S8x73728x86 2
    [⟨S8x73728x4, p⟩, ⟨S8x73728x1, shapeCast _ q shapeCasts_S8x18x64x64_S8x73728x1⟩,
     ⟨S8x73728x1, shapeCast _ r shapeCasts_S8x18x64x64_S8x73728x1⟩, ⟨S8x73728x80, shapeCast _ s shapeCasts_S8x18x64x64x80_S8x73728x80⟩]
    concatenates_S8x73728x4_S8x73728x1_S8x73728x1_S8x73728x80_S8x73728x86_d2

def result (X : FVec F S8x1548x64x64 .f32) : FVec F S8x73728x86 .f32 :=
  join
    (stack (place (channel 0 slices_S8x18x64x64x86_S8x18x64x64x1_0_0_0_0_0 X) (overAll lines))
      (place (channel 1 slices_S8x18x64x64x86_S8x18x64x64x1_0_0_0_0_1 X) (overAll (transpose S64x64 [1, 0] lines transposes_S64x64_S64x64_1_0)))
      (mulf (Host.exp (channel 2 slices_S8x18x64x64x86_S8x18x64x64x1_0_0_0_0_2 X)) (anchors 0 slices_S18x3_S18x1_0_0))
      (mulf (Host.exp (channel 3 slices_S8x18x64x64x86_S8x18x64x64x1_0_0_0_0_3 X)) (anchors 1 slices_S18x3_S18x1_0_1)))
    (addf (channel 4 slices_S8x18x64x64x86_S8x18x64x64x1_0_0_0_0_4 X) (anchors 2 slices_S18x3_S18x1_0_2))
    (logistic (channel 5 slices_S8x18x64x64x86_S8x18x64x64x1_0_0_0_0_5 X))
    (classes X)

theorem result_eq (m : (ℓ : Loc nD τ sig) → Buf (Elt F) ℓ) (d : Dev nD) :
    Value.res_main_v92 m d = result (m ((d.tc : Thread nD τ).loc main_arg0)) := by
  unfold Value.res_main_v92
  rfl
/-! ## The result at an element -/

theorem stack_at (u : Fin 4 → FVec F S8x18x64x64 .f32) (b : Fin 8) (n : Fin 73728) (c : Fin 4) :
    stack (u 0) (u 1) (u 2) (u 3) (ix3 b n c)
      = FloatOps.mulf (u c (ix4 b ⟨n.val / 4096, by omega⟩ ⟨n.val / 64 % 64, by omega⟩ ⟨n.val % 64, by omega⟩)) (FloatOps.ofBits .f32 0x41000000#32) := by
  pointwise [stack]
  match c with
  | ⟨0, _⟩ => rfl
  | ⟨1, _⟩ => rfl
  | ⟨2, _⟩ => rfl
  | ⟨3, _⟩ => rfl

theorem join_at (p : FVec F S8x73728x4 .f32) (q r : FVec F S8x18x64x64 .f32) (s : FVec F S8x18x64x64x80 .f32) (b : Fin 8) (n : Fin 73728) (c : Fin 86) :
    join p q r s (ix3 b n c)
      = if h : c.val < 4 then p (ix3 b n ⟨c.val, h⟩)
        else if c.val = 4 then q (ix4 b ⟨n.val / 4096, by omega⟩ ⟨n.val / 64 % 64, by omega⟩ ⟨n.val % 64, by omega⟩)
        else if c.val = 5 then r (ix4 b ⟨n.val / 4096, by omega⟩ ⟨n.val / 64 % 64, by omega⟩ ⟨n.val % 64, by omega⟩)
        else s (ix5 b ⟨n.val / 4096, by omega⟩ ⟨n.val / 64 % 64, by omega⟩ ⟨n.val % 64, by omega⟩ ⟨c.val - 6, by omega⟩) := by
  pointwise [join]
  by_cases h0 : c.val < 4
  · rw [dif_pos h0, dif_pos h0]
  by_cases h1 : c.val = 4
  · rw [dif_neg h0, dif_neg h0, dif_pos (by omega), if_pos h1]
  by_cases h2 : c.val = 5
  · rw [dif_neg h0, dif_neg h0, dif_neg (by omega), if_neg h1, dif_pos (by omega), if_pos h2]
  · rw [dif_neg h0, dif_neg h0, dif_neg (by omega), if_neg h1, dif_neg (by omega), if_neg h2]
    rfl

/-- The logistic function of one number. -/
def sigma (v : F .f32) : F .f32 :=
  FloatOps.hostDivf (FloatOps.ofBits .f32 0x3F800000#32) (FloatOps.addf (FloatOps.ofBits .f32 0x3F800000#32) (FloatOps.hostUnary .exp (FloatOps.hostNegf v)))

/-- The number that the reference puts at anchor `a`, row `y`, column `x` and channel `c`, from the argument's number there. -/
def plainCell (a : Fin 18) (y x c : ℕ) (v : F .f32) : F .f32 :=
  if c = 0 then FloatOps.mulf (FloatOps.addf (FloatOps.subf (FloatOps.mulf (sigma v) (FloatOps.ofBits .f32 0x3F866666#32)) (FloatOps.ofBits .f32 0x3CCCCCCD#32))
      (FloatOps.sitofp .f32 (BitVec.ofNat 32 x))) (FloatOps.ofBits .f32 0x41000000#32)
  else if c = 1 then FloatOps.mulf (FloatOps.addf (FloatOps.subf (FloatOps.mulf (sigma v) (FloatOps.ofBits .f32 0x3F866666#32)) (FloatOps.ofBits .f32 0x3CCCCCCD#32))
      (FloatOps.sitofp .f32 (BitVec.ofNat 32 y))) (FloatOps.ofBits .f32 0x41000000#32)
  else if c = 2 then FloatOps.mulf (FloatOps.mulf (FloatOps.hostUnary .exp v) (FloatOps.ofBits .f32 (lit0 (S18x3.rowMajor (ix2 a 0))))) (FloatOps.ofBits .f32 0x41000000#32)
  else if c = 3 then FloatOps.mulf (FloatOps.mulf (FloatOps.hostUnary .exp v) (FloatOps.ofBits .f32 (lit0 (S18x3.rowMajor (ix2 a 1))))) (FloatOps.ofBits .f32 0x41000000#32)
  else if c = 4 then FloatOps.addf v (FloatOps.ofBits .f32 (lit0 (S18x3.rowMajor (ix2 a 2))))
  else sigma v

theorem logistic_at (v : FVec F S8x18x64x64 .f32) (b : Fin 8) (a : Fin 18) (y x : Fin 64) :
    logistic v (ix4 b a y x) = sigma (v (ix4 b a y x)) := by
  pointwise [logistic, sigma]

theorem place_at (v g : FVec F S8x18x64x64 .f32) (b : Fin 8) (a : Fin 18) (y x : Fin 64) :
    place v g (ix4 b a y x) = FloatOps.addf (FloatOps.subf (FloatOps.mulf (sigma (v (ix4 b a y x))) (FloatOps.ofBits .f32 0x3F866666#32)) (FloatOps.ofBits .f32 0x3CCCCCCD#32)) (g (ix4 b a y x)) := by
  pointwise [place, logistic, sigma]

theorem rows_at (y x : Fin 64) :
    (transpose S64x64 [1, 0] (lines (F := F)) transposes_S64x64_S64x64_1_0) (ix2 y x) = FloatOps.sitofp .f32 (BitVec.ofNat 32 y.val) := by
  rw [← lines_at x y]
  pointwise

theorem classes_at (X : FVec F S8x1548x64x64 .f32) (b : Fin 8) (a : Fin 18) (y x : Fin 64) (c : Fin 80) :
    classes X (ix5 b a y x c) = sigma (X (ix4 b ⟨a.val * 86 + (c.val + 6), by omega⟩ y x)) := by
  rw [← slabs_at X b a y x ⟨c.val + 6, by omega⟩]
  pointwise [classes, sigma]
  simp only [Nat.add_comm]

theorem result_at (X : FVec F S8x1548x64x64 .f32) (b : Fin 8) (n : Fin 73728) (c : Fin 86) :
    result X (ix3 b n c)
      = plainCell ⟨n.val / 4096, by omega⟩ (n.val / 64 % 64) (n.val % 64) c.val
          (X (ix4 b ⟨n.val / 4096 * 86 + c.val, by omega⟩ ⟨n.val / 64 % 64, by omega⟩ ⟨n.val % 64, by omega⟩)) := by
  unfold result
  rw [join_at]
  unfold plainCell
  obtain ⟨c, hc⟩ := c
  dsimp only
  by_cases h4 : c < 4
  · rw [dif_pos h4]
    refine (stack_at ![_, _, _, _] b n ⟨c, h4⟩).trans ?_
    match c, h4 with
    | 0, _ => exact congrArg (FloatOps.mulf · _) ((place_at ..).trans (by rw [channel_at 0 (by decide), overAll_at, lines_at]))
    | 1, _ => exact congrArg (FloatOps.mulf · _) ((place_at ..).trans (by rw [channel_at 1 (by decide), overAll_at, rows_at]))
    | 2, _ => exact congrArg₂ (fun u w => FloatOps.mulf (FloatOps.mulf (FloatOps.hostUnary .exp u) w) _) (channel_at 2 (by decide) ..) (anchors_at 0 ..)
    | 3, _ => exact congrArg₂ (fun u w => FloatOps.mulf (FloatOps.mulf (FloatOps.hostUnary .exp u) w) _) (channel_at 3 (by decide) ..) (anchors_at 1 ..)
  rw [dif_neg h4, if_neg (show ¬ c = 0 by omega), if_neg (show ¬ c = 1 by omega), if_neg (show ¬ c = 2 by omega), if_neg (show ¬ c = 3 by omega)]
  by_cases h5 : c = 4
  · subst h5
    exact congrArg₂ FloatOps.addf (channel_at 4 (by decide) ..) (anchors_at 2 ..)
  rw [if_neg h5, if_neg h5]
  by_cases h6 : c = 5
  · subst h6
    exact (logistic_at ..).trans (congrArg sigma (channel_at 5 (by decide) ..))
  rw [if_neg h6, classes_at]
  simp only [show c - 6 + 6 = c by omega]

end Cert.Proof.Plain

end
-- ==== Proof.Number.lean ====
/-
  The equation of the numbers: over the extended reals the kernel's two spellings of a decoded number, the TensorCore's and
  the SparseCore's, are the reference's.

  The kernel folds the reference's last factor, eight, into its constants.  A sum of reals may be multiplied term by term,
  and the logistic function is a real number everywhere; where the argument itself may be infinite the factors are only
  regrouped.
-/
module

public import proofs.«01_k».proof.Proof.Slab
public import proofs.«01_k».proof.Proof.Plain
public import Mathlib.Tactic.NormNum
public import Mathlib.Tactic.Ring

@[expose] public section

noncomputable section

namespace Cert.Proof.Number

open Idealize.ShloMosaic Cert.Proof.Decode Cert.Proof.Slab Cert.Proof.Plain

/-! ## The constants -/

theorem w_scale : Ideal.ofBits .f32 0x3F866666#32 = ((8808038 / 8388608 : ℝ) : EReal) := by
  simp [Ideal.ofBits, Ideal.ieee, -EReal.coe_mul]; norm_num
theorem w_scale8 : Ideal.ofBits .f32 0x41066666#32 = ((8808038 / 1048576 : ℝ) : EReal) := by
  simp [Ideal.ofBits, Ideal.ieee, -EReal.coe_mul]; norm_num
theorem w_shift : Ideal.ofBits .f32 0x3CCCCCCD#32 = ((13421773 / 536870912 : ℝ) : EReal) := by
  simp [Ideal.ofBits, Ideal.ieee, -EReal.coe_mul]; norm_num
theorem w_shift8 : Ideal.ofBits .f32 0x3E4CCCCD#32 = ((13421773 / 67108864 : ℝ) : EReal) := by
  simp [Ideal.ofBits, Ideal.ieee, -EReal.coe_mul]; norm_num
theorem w_8 : Ideal.ofBits .f32 0x41000000#32 = ((8 : ℝ) : EReal) := by
  simp [Ideal.ofBits, Ideal.ieee, -EReal.coe_mul]; norm_num
theorem w_2 : Ideal.ofBits .f32 0x40000000#32 = ((2 : ℝ) : EReal) := by
  simp [Ideal.ofBits, Ideal.ieee, -EReal.coe_mul]; norm_num
theorem w_sixth : Ideal.ofBits .f32 0x3F060A92#32 = ((8784530 / 16777216 : ℝ) : EReal) := by
  simp [Ideal.ofBits, Ideal.ieee, -EReal.coe_mul]; norm_num

/-! ## The table of anchors -/

/-- The words of the table's columns, by the shape's number and by the angle's. -/
def widthW (i : ℕ) : BitVec 32 := if i = 0 then 0x3FC00000#32 else if i = 1 then 0x40180000#32 else 0x40A00000#32
def heightW (i : ℕ) : BitVec 32 := if i = 0 then 0x40000000#32 else if i = 1 then 0x40900000#32 else 0x40600000#32
def turnW (j : ℕ) : BitVec 32 :=
  if j = 0 then 0xBF860A92#32 else if j = 1 then 0xBF060A92#32 else if j = 2 then 0x00000000#32
  else if j = 3 then 0x3F060A92#32 else if j = 4 then 0x3F860A92#32 else 0x3FC90FDB#32

theorem width_word (a : Fin 18) : Cert.ReferenceIdeal.lit0 (Cert.ReferenceIdeal.S18x3.rowMajor (ix2 a 0)) = widthW (a.val / 6) := by
  revert a; decide
theorem height_word (a : Fin 18) : Cert.ReferenceIdeal.lit0 (Cert.ReferenceIdeal.S18x3.rowMajor (ix2 a 1)) = heightW (a.val / 6) := by
  revert a; decide
theorem turn_word (a : Fin 18) : Cert.ReferenceIdeal.lit0 (Cert.ReferenceIdeal.S18x3.rowMajor (ix2 a 2)) = turnW (a.val % 6) := by
  revert a; decide

/-- The kernel's width and height of an anchor are eight times the table's. -/
theorem width_eq (i : ℕ) : Ideal.ofBits .f32 (widthW i) * Ideal.ofBits .f32 0x41000000#32 = awOf (F := Ideal) i := by
  unfold widthW awOf
  split
  · show _ = Ideal.ofBits .f32 0x41400000#32
    simp [Ideal.ofBits, Ideal.ieee, -EReal.coe_mul, ← EReal.coe_mul]; norm_num
  split
  · show _ = Ideal.ofBits .f32 0x41980000#32
    simp [Ideal.ofBits, Ideal.ieee, -EReal.coe_mul, ← EReal.coe_mul]; norm_num
  · show _ = Ideal.ofBits .f32 0x42200000#32
    simp [Ideal.ofBits, Ideal.ieee, -EReal.coe_mul, ← EReal.coe_mul]; norm_num

theorem height_eq (i : ℕ) : Ideal.ofBits .f32 (heightW i) * Ideal.ofBits .f32 0x41000000#32 = ahOf (F := Ideal) i := by
  unfold heightW ahOf
  split
  · show _ = Ideal.ofBits .f32 0x41800000#32
    simp [Ideal.ofBits, Ideal.ieee, -EReal.coe_mul, ← EReal.coe_mul]; norm_num
  split
  · show _ = Ideal.ofBits .f32 0x42100000#32
    simp [Ideal.ofBits, Ideal.ieee, -EReal.coe_mul, ← EReal.coe_mul]; norm_num
  · show _ = Ideal.ofBits .f32 0x41E00000#32
    simp [Ideal.ofBits, Ideal.ieee, -EReal.coe_mul, ← EReal.coe_mul]; norm_num

/-- A small natural as a word, read as a number. -/
theorem word_real (n : ℕ) (h : n < 2 ^ 31) : (((BitVec.ofNat 32 n).toInt : ℝ) : EReal) = ((n : ℝ) : EReal) := by
  have e : (BitVec.ofNat 32 n).toNat = n := by rw [BitVec.toNat_ofNat]; exact Nat.mod_eq_of_lt (by omega)
  rw [BitVec.toInt_eq_toNat_of_lt (by omega), e]
  rfl

/-- The kernel's angle of an anchor is the table's: the table's angles are these multiples exactly. -/
theorem turn_eq (j : ℕ) (h : j < 6) : Ideal.ofBits .f32 (turnW j) = angOf (F := Ideal) j := by
  show _ = ((((BitVec.ofNat 32 j).toInt : ℝ) : EReal) - Ideal.ofBits .f32 0x40000000#32) * Ideal.ofBits .f32 0x3F060A92#32
  rw [word_real j (by omega), w_2, w_sixth, ← EReal.coe_sub, ← EReal.coe_mul]
  match j, h with
  | 0, _ => simp [turnW, Ideal.ofBits, Ideal.ieee, -EReal.coe_mul]; norm_num
  | 1, _ => simp [turnW, Ideal.ofBits, Ideal.ieee, -EReal.coe_mul]; norm_num
  | 2, _ => simp [turnW, Ideal.ofBits, Ideal.ieee, -EReal.coe_mul]
  | 3, _ => simp [turnW, Ideal.ofBits, Ideal.ieee, -EReal.coe_mul]; norm_num
  | 4, _ => simp [turnW, Ideal.ofBits, Ideal.ieee, -EReal.coe_mul]; norm_num
  | 5, _ => simp [turnW, Ideal.ofBits, Ideal.ieee, -EReal.coe_mul]; norm_num

/-! ## The logistic function -/

theorem sigma_eq (x : Ideal .f32) : sigma (F := Ideal) x = Ideal.logistic x := by
  show Ideal.div (Ideal.ofBits .f32 0x3F800000#32) (Ideal.ofBits .f32 0x3F800000#32 + Ideal.exp (-x)) = _
  rw [Ideal.ofBits_one_f32]; rfl

theorem sg_eq (x : Ideal .f32) : sg (F := Ideal) x = Ideal.logistic x := by
  show Ideal.div (Ideal.ofBits .f32 0x3F800000#32) (Ideal.ofBits .f32 0x3F800000#32 + Ideal.exp (Ideal.ofBits .f32 0x00000000#32 - x)) = _
  rw [Ideal.ofBits_one_f32, Ideal.ofBits_zero_f32, zero_sub]; rfl

/-- It is a real number everywhere. -/
theorem logistic_real (x : EReal) : ∃ r : ℝ, Ideal.logistic x = (r : EReal) := by
  induction x with
  | bot => exact ⟨0, by simp⟩
  | coe r => exact ⟨_, Ideal.logistic_coe r⟩
  | top => exact ⟨1, by simp⟩

/-! ## A decoded number -/

/-- A place along an axis, at grid line `n`. -/
theorem place_tc (x : Ideal .f32) (n : ℕ) (h : n < 4096) :
    ((Ideal.logistic x * Ideal.ofBits .f32 0x3F866666#32 - Ideal.ofBits .f32 0x3CCCCCCD#32) + (((BitVec.ofNat 32 n).toInt : ℝ) : EReal)) * Ideal.ofBits .f32 0x41000000#32
      = Ideal.logistic x * Ideal.ofBits .f32 0x41066666#32 + (((BitVec.ofNat 32 n).toInt : ℝ) : EReal) * Ideal.ofBits .f32 0x41000000#32 - Ideal.ofBits .f32 0x3E4CCCCD#32 := by
  obtain ⟨r, hr⟩ := logistic_real x
  rw [hr, word_real n (by omega), w_scale, w_scale8, w_shift, w_shift8, w_8]
  simp only [← EReal.coe_mul, ← EReal.coe_sub, ← EReal.coe_add]
  congr 1
  ring

theorem place_sc (x : Ideal .f32) (n : ℕ) (h : n < 4096) :
    ((Ideal.logistic x * Ideal.ofBits .f32 0x3F866666#32 - Ideal.ofBits .f32 0x3CCCCCCD#32) + (((BitVec.ofNat 32 n).toInt : ℝ) : EReal)) * Ideal.ofBits .f32 0x41000000#32
      = Ideal.logistic x * Ideal.ofBits .f32 0x41066666#32 + ((((BitVec.ofNat 32 n).toInt : ℝ) : EReal) * Ideal.ofBits .f32 0x41000000#32 - Ideal.ofBits .f32 0x3E4CCCCD#32) := by
  obtain ⟨r, hr⟩ := logistic_real x
  rw [hr, word_real n (by omega), w_scale, w_scale8, w_shift, w_shift8, w_8]
  simp only [← EReal.coe_mul, ← EReal.coe_sub, ← EReal.coe_add]
  congr 1
  ring

/-- The column of a cell, from its group of sixteen and its place there. -/
theorem col_eq (g : ℕ) : colOf (F := Ideal) g = (((BitVec.ofNat 32 (g % 64)).toInt : ℝ) : EReal) := by
  show (((BitVec.ofNat 32 (g / 16 * 16 % 64)).toInt : ℝ) : EReal) + (((BitVec.ofNat 32 (g % 16)).toInt : ℝ) : EReal) = _
  rw [word_real _ (by omega), word_real _ (by omega), word_real _ (by omega), ← EReal.coe_add, ← Nat.cast_add]
  congr 2
  omega

/-- What the TensorCore puts is the reference's number. -/
theorem tc_eq (ba g c : ℕ) (hg : g < 4096) (x : Ideal .f32) :
    tcCell ba g c x = plainCell ⟨ba % 18, Nat.mod_lt _ (by decide)⟩ (g / 64) (g % 64) c x := by
  unfold tcCell plainCell
  rw [width_word, height_word, turn_word, sigma_eq, sg_eq]
  split
  · exact (place_tc x (g % 64) (by omega)).symm
  split
  · exact (place_tc x (g / 64) (by omega)).symm
  split
  · exact ((mul_assoc _ _ _).trans (congrArg (Ideal.exp x * ·) (width_eq _))).symm
  split
  · exact ((mul_assoc _ _ _).trans (congrArg (Ideal.exp x * ·) (height_eq _))).symm
  split
  · exact (congrArg (x + ·) (turn_eq _ (Nat.mod_lt _ (by decide)))).symm
  · rfl

/-- What the SparseCore puts is too. -/
theorem sc_eq (ba g c : ℕ) (hg : g < 4096) (x : Ideal .f32) :
    scCell ba g c x = plainCell ⟨ba % 18, Nat.mod_lt _ (by decide)⟩ (g / 64) (g % 64) c x := by
  unfold scCell plainCell
  rw [width_word, height_word, turn_word, sigma_eq, sg_eq, col_eq]
  split
  · exact (place_sc x (g % 64) (by omega)).symm
  split
  · exact (place_sc x (g / 64) (by omega)).symm
  split
  · exact ((mul_assoc _ _ _).trans (congrArg (Ideal.exp x * ·) (width_eq _))).symm
  split
  · exact ((mul_assoc _ _ _).trans (congrArg (Ideal.exp x * ·) (height_eq _))).symm
  split
  · exact (congrArg (x + ·) (turn_eq _ (Nat.mod_lt _ (by decide)))).symm
  · rfl

end Cert.Proof.Number

end
-- ==== Proof.Joined.lean ====
/-
  The kernel's result, read element by element over the extended reals, and its equation with the reference's.

  Row `n` of image `b` is anchor `n / 4096` and grid cell `n % 4096`, so slab `18 * b + n / 4096`.  The first 104 slabs come
  from the TensorCore's array and the others from the SparseCore's, whose slabs are in sixteen chunks of 256 cells.
-/
module

public import proofs.«01_k».proof.Proof.Main
public import proofs.«01_k».proof.Proof.Number

@[expose] public section

noncomputable section

namespace Cert.Proof.Joined

open Cert.KernelIdeal Cert.KernelIdeal.Gen Idealize.ShloMosaic
open Cert.Proof.Decode Cert.Proof.Slab Cert.Proof.Run Cert.Proof.Plain

section
variable {F : FTy → Type} [FloatOps F]

/-- The argument laid out as slabs. -/
theorem flat_at (X : FVec F S8x1548x64x64 .f32) (s : Fin 144) (c : Fin 86) (g : Fin 4096) :
    shapeCast S144x86x4096 X shapeCasts_S8x1548x64x64_S144x86x4096 (ix3 s c g)
      = X (ix4 ⟨s.val / 18, by omega⟩ ⟨s.val % 18 * 86 + c.val, by omega⟩ ⟨g.val / 64, by omega⟩ ⟨g.val % 64, by omega⟩) := by
  pointwise

/-- The two parts joined. -/
theorem joined_at (z : FVec F S104x4096x86 .f32) (y : FVec F S40x16x22016 .f32) (b : Fin 8) (n : Fin 73728) (c : Fin 86) :
    shapeCast S8x73728x86 (joined (shapeCast S104x352256 z shapeCasts_S104x4096x86_S104x352256)
        (shapeCast S40x352256 y shapeCasts_S40x16x22016_S40x352256)) shapeCasts_S144x352256_S8x73728x86 (ix3 b n c)
      = if h : b.val * 18 + n.val / 4096 < 104 then z (ix3 ⟨b.val * 18 + n.val / 4096, h⟩ ⟨(n.val % 4096 * 86 + c.val) / 86, by omega⟩ c)
        else y (ix3 ⟨b.val * 18 + n.val / 4096 - 104, by omega⟩ ⟨(n.val % 4096 * 86 + c.val) / 22016, by omega⟩
          ⟨(n.val % 4096 * 86 + c.val) % 22016, by omega⟩) := by
  pointwise [joined]

/-- An element of the TensorCore's part. -/
theorem z_at (x : FVec F S144x86x4096 .f32) (t : Fin 104) (g : Fin 4096) (c : Fin 86) :
    zDone x (ix3 t g c) = tcCell t.val g.val c.val (x (ix3 ⟨t.val, by omega⟩ c g)) := by
  refine congrArg (tcCell t.val g.val c.val) (congrArg x ?_)
  funext a
  match a with
  | 0 => rfl
  | 1 => rfl
  | 2 => rfl

/-- An element of the SparseCore's part. -/
theorem y_at (x : FVec F S144x86x4096 .f32) (t : Fin 40) (ch : Fin 16) (w : Fin 22016) :
    yDone x (ix3 t ch w) = scCell (104 + t.val) (256 * ch.val + w.val / 86) (w.val % 86)
      (x (ix3 ⟨104 + t.val, by omega⟩ ⟨w.val % 86, by omega⟩ ⟨256 * ch.val + w.val / 86, by omega⟩)) := by
  refine congrArg (scCell (104 + t.val) (256 * ch.val + w.val / 86) (w.val % 86)) (congrArg x ?_)
  funext a
  refine Fin.ext ?_
  match a with
  | 0 => show (104 + (16 * t.val + ch.val) / 16) % 144 = 104 + t.val; omega
  | 1 => show w.val % 86 % 86 = w.val % 86; omega
  | 2 => show (256 * ((16 * t.val + ch.val) % 16) + w.val / 86 % 256) % 4096 = 256 * ch.val + w.val / 86; omega

end

/-- Either part's element is the reference's number, at slab `s` and cell `g`. -/
theorem done_at (x : FVec Ideal S144x86x4096 .f32) (b : Fin 8) (n : Fin 73728) (c : Fin 86) :
    shapeCast S8x73728x86 (joined (shapeCast S104x352256 (zDone (F := Ideal) x) shapeCasts_S104x4096x86_S104x352256)
        (shapeCast S40x352256 (yDone (F := Ideal) x) shapeCasts_S40x16x22016_S40x352256)) shapeCasts_S144x352256_S8x73728x86 (ix3 b n c)
      = plainCell ⟨(b.val * 18 + n.val / 4096) % 18, by omega⟩ (n.val % 4096 / 64) (n.val % 4096 % 64) c.val
          (x (ix3 ⟨b.val * 18 + n.val / 4096, by omega⟩ c ⟨n.val % 4096, by omega⟩)) := by
  rw [joined_at]
  by_cases h : b.val * 18 + n.val / 4096 < 104
  · rw [dif_pos h, z_at, Number.tc_eq _ _ _ (Fin.isLt _)]
    simp only [show (n.val % 4096 * 86 + c.val) / 86 = n.val % 4096 by omega]
  · rw [dif_neg h, y_at, Number.sc_eq _ _ _ (by dsimp only; omega)]
    simp only [show 104 + (b.val * 18 + n.val / 4096 - 104) = b.val * 18 + n.val / 4096 by omega,
      show (n.val % 4096 * 86 + c.val) % 22016 % 86 = c.val by omega,
      show 256 * ((n.val % 4096 * 86 + c.val) / 22016) + (n.val % 4096 * 86 + c.val) % 22016 / 86 = n.val % 4096 by omega]

/-- The kernel's result is the reference's function of the argument. -/
theorem out_eq (m : (ℓ : Loc nD τ sig) → Buf (Elt Ideal) ℓ) (d : Dev nD) :
    out m d = Plain.result (m ((SparseCore.T d).loc main_arg0)) := by
  funext i
  obtain ⟨b, n, c, rfl⟩ : ∃ (b : Fin 8) (n : Fin 73728) (c : Fin 86), i = ix3 b n c := ⟨i 0, i 1, i 2, eq_ix3 i⟩
  refine (done_at (xs m d) b n c).trans ((result_at _ b n c).trans ?_).symm
  rw [xs_eq]
  refine Eq.trans ?_ (congrArg (plainCell _ _ _ _) (flat_at _ _ c _)).symm
  simp only [show (b.val * 18 + n.val / 4096) % 18 = n.val / 4096 by omega, show (b.val * 18 + n.val / 4096) / 18 = b.val by omega,
    show n.val % 4096 / 64 = n.val / 64 % 64 by omega, show n.val % 4096 % 64 = n.val % 64 by omega]

end Cert.Proof.Joined

end
-- ==== Proof.lean ====
/-
  The five claims, assembled: the frames of the kernel, of its ideal instance and of the reference, and the equality of their
  results over the extended reals.
-/
module

public import proofs.«01_k».proof.Proof.Gen.ReferenceIdeal.Run
public import proofs.«01_k».proof.Proof.Main
public import proofs.«01_k».proof.Proof.Same
public import proofs.«01_k».proof.Proof.Joined
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The frame over any float values: the one run of Main, the result left out. -/
theorem frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0) :=
  (θ_run Cert.KernelIdeal.defs _ _).mono (fun _ h => ⟨fun c => (h.1 c).2, h.2⟩) (Run.run_main m ρ)

/-- The kernel as it is compiled: its program is the idealized one's text, so the one run covers it. -/
theorem frame_kernel : Cert.quiescent_Kernel := fun m ρ _ =>
  (congrArg (fun D => θ_run D (Cert.KernelIdeal.threads (F := Bits)) ⟨m, fun _ => 0, ρ⟩ _) Same.tables).mpr
    (frame (F := Bits) m ρ)

theorem frame_ideal : Cert.quiescent_KernelIdeal := fun m ρ _ => frame (F := Ideal) m ρ

/-- The reference has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result and the reference's are equal wherever their arguments are. -/
theorem algebraic : Cert.algebraic_KernelIdeal_ReferenceIdeal := fun m ρ m' ρ' _ agree =>
  ⟨fun c => Run.out m c,
    (θ_run Cert.KernelIdeal.defs _ _).mono (fun _ h => h.1) (Run.run_main (F := Ideal) m ρ),
    (θ_run Cert.ReferenceIdeal.defs _ _).mono
      (fun r h c => ⟨(h c).1.trans ((Plain.result_eq m' c).trans
        ((congrArg Plain.result (agree c)).trans (Joined.out_eq m c).symm)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
